-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384x26 : Shape := ⟨2, ![16384, 26]⟩
abbrev S224000x16 : Shape := ⟨2, ![224000, 16]⟩
abbrev S100000x1 : Shape := ⟨2, ![100000, 1]⟩
abbrev S1 : Shape := ⟨1, ![1]⟩
abbrev S416x64 : Shape := ⟨2, ![416, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S_ : Shape := ⟨0, ![]⟩

class Facts : Prop where
  bcast_S_S16384x26 : S_.BroadcastsInDim S16384x26 (![] : Fin 0 → Fin S16384x26.rank)
  reducesTo_S16384x26_S_d0_1 : S16384x26.ReducesTo [0, 1] S_
  h_S_ : 0 < S_.numel

variable [Facts]

def fn {F : FTy → Type} [FloatOps F] (main_arg0 : IVec S16384x26 32) (main_arg1 : FVec F S224000x16 .f32) (main_arg2 : FVec F S100000x1 .f32) (main_arg3 : FVec F S100000x1 .f32) (main_arg4 : FVec F S1 .f32) (main_arg5 : FVec F S416x64 .f32) (main_arg6 : FVec F S64 .f32) (main_arg7 : FVec F S64x32 .f32) (main_arg8 : FVec F S32 .f32) (main_arg9 : FVec F S32x1 .f32) (main_arg10 : FVec F S1 .f32) : IVec S_ 1 :=
  let main_c : IVec S_ 32 := constantI S_ 32 0#32
  let main_v0 : IVec S16384x26 32 := broadcastInDim S16384x26 ![] bcast_S_S16384x26 main_c
  let main_v1 : IVec S16384x26 1 := cmpi .sge main_arg0 main_v0
  let main_c_0 : IVec S_ 32 := constantI S_ 32 1000#32
  let main_v2 : IVec S16384x26 32 := broadcastInDim S16384x26 ![] bcast_S_S16384x26 main_c_0
  let main_v3 : IVec S16384x26 1 := cmpi .slt main_arg0 main_v2
  let main_v4 : IVec S16384x26 1 := andi main_v1 main_v3
  let main_c_1 : IVec S_ 1 := constantI S_ 1 1#1
  let main_v5 : IVec S_ 1 := (fun x v => Host.reduce IntOp.andi x v reducesTo_S16384x26_S_d0_1 h_S_) main_v4 main_c_1
  main_v5
-- ==== Kernel.lean ====
abbrev S16384x26 : Shape := ⟨2, ![16384, 26]⟩
abbrev S224000x16 : Shape := ⟨2, ![224000, 16]⟩
abbrev S100000x1 : Shape := ⟨2, ![100000, 1]⟩
abbrev S1 : Shape := ⟨1, ![1]⟩
abbrev S416x64 : Shape := ⟨2, ![416, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S416x16 : Shape := ⟨2, ![416, 16]⟩
abbrev S1000x16 : Shape := ⟨2, ![1000, 16]⟩
abbrev S24000x16 : Shape := ⟨2, ![24000, 16]⟩
abbrev S1000x1 : Shape := ⟨2, ![1000, 1]⟩
abbrev S_ : Shape := ⟨0, ![]⟩
abbrev S28000x16 : Shape := ⟨2, ![28000, 16]⟩
abbrev S26 : Shape := ⟨1, ![26]⟩
abbrev S1x26 : Shape := ⟨2, ![1, 26]⟩
abbrev S16384x1 : Shape := ⟨2, ![16384, 1]⟩
abbrev S16384 : Shape := ⟨1, ![16384]⟩
abbrev S16384x28 : Shape := ⟨2, ![16384, 28]⟩
abbrev S458752 : Shape := ⟨1, ![458752]⟩
abbrev S458752x16 : Shape := ⟨2, ![458752, 16]⟩
abbrev S3584 : Shape := ⟨1, ![3584]⟩
abbrev S3584x16 : Shape := ⟨2, ![3584, 16]⟩
abbrev S16384x448 : Shape := ⟨2, ![16384, 448]⟩
abbrev S416x80 : Shape := ⟨2, ![416, 80]⟩
abbrev S1x1 : Shape := ⟨2, ![1, 1]⟩
abbrev S1x64 : Shape := ⟨2, ![1, 64]⟩
abbrev S1x32 : Shape := ⟨2, ![1, 32]⟩
abbrev S256x448 : Shape := ⟨2, ![256, 448]⟩
abbrev S256 : Shape := ⟨1, ![256]⟩
abbrev S256x416 : Shape := ⟨2, ![256, 416]⟩
abbrev S256x80 : Shape := ⟨2, ![256, 80]⟩
abbrev S256x64 : Shape := ⟨2, ![256, 64]⟩
abbrev S256x16 : Shape := ⟨2, ![256, 16]⟩
abbrev S256x1 : Shape := ⟨2, ![256, 1]⟩
abbrev S256x32 : Shape := ⟨2, ![256, 32]⟩

abbrev nBuf : Table → Nat
  | .hbm => 53
  | .local .tc .vmem => 9
  | .local .tc .smem => 1
  | .local .scVector .vmem => 2
  | _ => 0

abbrev bufTy : (tb : Table) → Fin (nBuf tb) → BufTy
  | .hbm, ⟨0, _⟩ => ⟨S16384x26, .i32⟩
  | .hbm, ⟨1, _⟩ => ⟨S224000x16, .f32⟩
  | .hbm, ⟨2, _⟩ => ⟨S100000x1, .f32⟩
  | .hbm, ⟨3, _⟩ => ⟨S100000x1, .f32⟩
  | .hbm, ⟨4, _⟩ => ⟨S1, .f32⟩
  | .hbm, ⟨5, _⟩ => ⟨S416x64, .f32⟩
  | .hbm, ⟨6, _⟩ => ⟨S64, .f32⟩
  | .hbm, ⟨7, _⟩ => ⟨S64x32, .f32⟩
  | .hbm, ⟨8, _⟩ => ⟨S32, .f32⟩
  | .hbm, ⟨9, _⟩ => ⟨S32x1, .f32⟩
  | .hbm, ⟨10, _⟩ => ⟨S1, .f32⟩
  | .hbm, ⟨11, _⟩ => ⟨S416x16, .f32⟩
  | .hbm, ⟨12, _⟩ => ⟨S1000x16, .f32⟩
  | .hbm, ⟨13, _⟩ => ⟨S1000x16, .f32⟩
  | .hbm, ⟨14, _⟩ => ⟨S24000x16, .f32⟩
  | .hbm, ⟨15, _⟩ => ⟨S1000x1, .f32⟩
  | .hbm, ⟨16, _⟩ => ⟨S_, .i32⟩
  | .hbm, ⟨17, _⟩ => ⟨S_, .f32⟩
  | .hbm, ⟨18, _⟩ => ⟨S1000x16, .f32⟩
  | .hbm, ⟨19, _⟩ => ⟨S1000x1, .f32⟩
  | .hbm, ⟨20, _⟩ => ⟨S_, .i32⟩
  | .hbm, ⟨21, _⟩ => ⟨S_, .f32⟩
  | .hbm, ⟨22, _⟩ => ⟨S1000x16, .f32⟩
  | .hbm, ⟨23, _⟩ => ⟨S28000x16, .f32⟩
  | .hbm, ⟨24, _⟩ => ⟨S26, .i32⟩
  | .hbm, ⟨25, _⟩ => ⟨S_, .i32⟩
  | .hbm, ⟨26, _⟩ => ⟨S26, .i32⟩
  | .hbm, ⟨27, _⟩ => ⟨S26, .i32⟩
  | .hbm, ⟨28, _⟩ => ⟨S1x26, .i32⟩
  | .hbm, ⟨29, _⟩ => ⟨S16384x26, .i32⟩
  | .hbm, ⟨30, _⟩ => ⟨S16384x26, .i32⟩
  | .hbm, ⟨31, _⟩ => ⟨S16384x1, .i32⟩
  | .hbm, ⟨32, _⟩ => ⟨S16384, .i32⟩
  | .hbm, ⟨33, _⟩ => ⟨S_, .i32⟩
  | .hbm, ⟨34, _⟩ => ⟨S16384, .i32⟩
  | .hbm, ⟨35, _⟩ => ⟨S16384, .i32⟩
  | .hbm, ⟨36, _⟩ => ⟨S16384x1, .i32⟩
  | .hbm, ⟨37, _⟩ => ⟨S16384, .i32⟩
  | .hbm, ⟨38, _⟩ => ⟨S_, .i32⟩
  | .hbm, ⟨39, _⟩ => ⟨S16384, .i32⟩
  | .hbm, ⟨40, _⟩ => ⟨S16384, .i32⟩
  | .hbm, ⟨41, _⟩ => ⟨S16384x1, .i32⟩
  | .hbm, ⟨42, _⟩ => ⟨S16384x1, .i32⟩
  | .hbm, ⟨43, _⟩ => ⟨S16384x28, .i32⟩
  | .hbm, ⟨44, _⟩ => ⟨S458752, .i32⟩
  | .hbm, ⟨45, _⟩ => ⟨S458752x16, .f32⟩
  | .hbm, ⟨46, _⟩ => ⟨S16384x448, .f32⟩
  | .hbm, ⟨47, _⟩ => ⟨S416x80, .f32⟩
  | .hbm, ⟨48, _⟩ => ⟨S1, .f32⟩
  | .hbm, ⟨49, _⟩ => ⟨S1x1, .f32⟩
  | .hbm, ⟨50, _⟩ => ⟨S1x64, .f32⟩
  | .hbm, ⟨51, _⟩ => ⟨S1x32, .f32⟩
  | .hbm, ⟨52, _⟩ => ⟨S16384, .f32⟩
  | .local .tc .vmem, ⟨0, _⟩ => ⟨S256x448, .f32⟩
  | .local .tc .vmem, ⟨1, _⟩ => ⟨S256x448, .f32⟩
  | .local .tc .vmem, ⟨2, _⟩ => ⟨S416x80, .f32⟩
  | .local .tc .vmem, ⟨3, _⟩ => ⟨S64x32, .f32⟩
  | .local .tc .vmem, ⟨4, _⟩ => ⟨S32x1, .f32⟩
  | .local .tc .vmem, ⟨5, _⟩ => ⟨S1x64, .f32⟩
  | .local .tc .vmem, ⟨6, _⟩ => ⟨S1x32, .f32⟩
  | .local .tc .vmem, ⟨7, _⟩ => ⟨S256, .f32⟩
  | .local .tc .vmem, ⟨8, _⟩ => ⟨S256, .f32⟩
  | .local .tc .smem, ⟨0, _⟩ => ⟨S1x1, .f32⟩
  | .local .scVector .vmem, ⟨0, _⟩ => ⟨S3584, .i32⟩
  | .local .scVector .vmem, ⟨1, _⟩ => ⟨S3584x16, .f32⟩
  | _, _ => ⟨S16384x26, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_call0_v0 : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_call1_v0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c_1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v7_scv : Ref sig .scVector := ⟨.hbm, 23, rfl⟩
abbrev main_v25_scv : Ref sig .scVector := ⟨.hbm, 44, rfl⟩
abbrev main_v26_scv : Ref sig .scVector := ⟨.hbm, 45, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg7_0 : Ref sig .tc := ⟨.vmem, 7, rfl⟩
abbrev cc1_stg7_1 : Ref sig .tc := ⟨.vmem, 8, rfl⟩
abbrev cc1_stg6_0 : Ref sig .tc := ⟨.smem, 0, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev cc1_sem7_0 : DmaSem sig := 11
abbrev cc1_sem7_1 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c4_i32 : BitVec 32 := 4#32
  let v3 : BitVec 32 := Scalar.addi c0_i32_0 c4_i32
  let c1_i32 : BitVec 32 := 1#32
  ⟨c0_i32_0, v3, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c14336_i32 : BitVec 32 := 14336#32
  let v2 : BitVec 32 := Scalar.muli v1 c14336_i32
  let c0_i32_0 : BitVec 32 := 0#32
  let c1_i32 : BitVec 32 := 1#32
  let arg8 : BitVec 32 := Scf.iv c0_i32_0 c1_i32 k0_t1
  let c3584_i32 : BitVec 32 := 3584#32
  let v4 : BitVec 32 := Scalar.muli arg8 c3584_i32
  let v5 : BitVec 32 := Scalar.addi v2 v4
  ![v5.toNat]
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c14336_i32 : BitVec 32 := 14336#32
  let v2 : BitVec 32 := Scalar.muli v1 c14336_i32
  let c0_i32_0 : BitVec 32 := 0#32
  let c1_i32 : BitVec 32 := 1#32
  let arg8 : BitVec 32 := Scf.iv c0_i32_0 c1_i32 k0_t1
  let c3584_i32 : BitVec 32 := 3584#32
  let v4 : BitVec 32 := Scalar.muli arg8 c3584_i32
  let v5 : BitVec 32 := Scalar.addi v2 v4
  let c0_i32_6_r1 : BitVec 32 := 0#32
  ![v5.toNat, 0]
abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S256x448 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S416x80 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .smem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x26 : Shape := ⟨2, ![16384, 26]⟩
abbrev S224000x16 : Shape := ⟨2, ![224000, 16]⟩
abbrev S100000x1 : Shape := ⟨2, ![100000, 1]⟩
abbrev S1 : Shape := ⟨1, ![1]⟩
abbrev S416x64 : Shape := ⟨2, ![416, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S26 : Shape := ⟨1, ![26]⟩
abbrev S16384x1 : Shape := ⟨2, ![16384, 1]⟩
abbrev S16384 : Shape := ⟨1, ![16384]⟩
abbrev S_ : Shape := ⟨0, ![]⟩
abbrev S1x1 : Shape := ⟨2, ![1, 1]⟩
abbrev S1x26 : Shape := ⟨2, ![1, 26]⟩
abbrev S16384x26x1 : Shape := ⟨3, ![16384, 26, 1]⟩
abbrev S1x1x1 : Shape := ⟨3, ![1, 1, 1]⟩
abbrev S16384x26x16 : Shape := ⟨3, ![16384, 26, 16]⟩
abbrev S16384x16 : Shape := ⟨2, ![16384, 16]⟩
abbrev S16384x416 : Shape := ⟨2, ![16384, 416]⟩
abbrev S16384x64 : Shape := ⟨2, ![16384, 64]⟩
abbrev S1x64 : Shape := ⟨2, ![1, 64]⟩
abbrev S16384x32 : Shape := ⟨2, ![16384, 32]⟩
abbrev S1x32 : Shape := ⟨2, ![1, 32]⟩

abbrev nBuf : Space → Nat
  | .hbm => 127
  | .vmem => 0
  | .smem => 0
  | _ => 0

abbrev bufTy : (tb : Table) → Fin (tcTables nBuf tb) → BufTy
  | .hbm, ⟨0, _⟩ => ⟨S16384x26, .i32⟩
  | .hbm, ⟨1, _⟩ => ⟨S224000x16, .f32⟩
  | .hbm, ⟨2, _⟩ => ⟨S100000x1, .f32⟩
  | .hbm, ⟨3, _⟩ => ⟨S100000x1, .f32⟩
  | .hbm, ⟨4, _⟩ => ⟨S1, .f32⟩
  | .hbm, ⟨5, _⟩ => ⟨S416x64, .f32⟩
  | .hbm, ⟨6, _⟩ => ⟨S64, .f32⟩
  | .hbm, ⟨7, _⟩ => ⟨S64x32, .f32⟩
  | .hbm, ⟨8, _⟩ => ⟨S32, .f32⟩
  | .hbm, ⟨9, _⟩ => ⟨S32x1, .f32⟩
  | .hbm, ⟨10, _⟩ => ⟨S1, .f32⟩
  | .hbm, ⟨11, _⟩ => ⟨S26, .i32⟩
  | .hbm, ⟨12, _⟩ => ⟨S16384x1, .i32⟩
  | .hbm, ⟨13, _⟩ => ⟨S16384, .i32⟩
  | .hbm, ⟨14, _⟩ => ⟨S16384x1, .i32⟩
  | .hbm, ⟨15, _⟩ => ⟨S16384, .i32⟩
  | .hbm, ⟨16, _⟩ => ⟨S_, .i32⟩
  | .hbm, ⟨17, _⟩ => ⟨S16384, .i32⟩
  | .hbm, ⟨18, _⟩ => ⟨S16384, .i1⟩
  | .hbm, ⟨19, _⟩ => ⟨S_, .i32⟩
  | .hbm, ⟨20, _⟩ => ⟨S16384, .i32⟩
  | .hbm, ⟨21, _⟩ => ⟨S16384, .i32⟩
  | .hbm, ⟨22, _⟩ => ⟨S16384, .i32⟩
  | .hbm, ⟨23, _⟩ => ⟨S16384x1, .i32⟩
  | .hbm, ⟨24, _⟩ => ⟨S1, .i32⟩
  | .hbm, ⟨25, _⟩ => ⟨S_, .i32⟩
  | .hbm, ⟨26, _⟩ => ⟨S16384x1, .i32⟩
  | .hbm, ⟨27, _⟩ => ⟨S16384x1, .i1⟩
  | .hbm, ⟨28, _⟩ => ⟨S1x1, .i32⟩
  | .hbm, ⟨29, _⟩ => ⟨S16384x1, .i32⟩
  | .hbm, ⟨30, _⟩ => ⟨S16384x1, .i1⟩
  | .hbm, ⟨31, _⟩ => ⟨S16384x1, .i1⟩
  | .hbm, ⟨32, _⟩ => ⟨S_, .i1⟩
  | .hbm, ⟨33, _⟩ => ⟨S16384, .i1⟩
  | .hbm, ⟨34, _⟩ => ⟨S16384x1, .f32⟩
  | .hbm, ⟨35, _⟩ => ⟨S16384x1, .i1⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384, .f32⟩
  | .hbm, ⟨40, _⟩ => ⟨S16384, .f32⟩
  | .hbm, ⟨41, _⟩ => ⟨S16384, .f32⟩
  | .hbm, ⟨42, _⟩ => ⟨S_, .i32⟩
  | .hbm, ⟨43, _⟩ => ⟨S16384, .i32⟩
  | .hbm, ⟨44, _⟩ => ⟨S16384, .i1⟩
  | .hbm, ⟨45, _⟩ => ⟨S_, .i32⟩
  | .hbm, ⟨46, _⟩ => ⟨S16384, .i32⟩
  | .hbm, ⟨47, _⟩ => ⟨S16384, .i32⟩
  | .hbm, ⟨48, _⟩ => ⟨S16384, .i32⟩
  | .hbm, ⟨49, _⟩ => ⟨S16384x1, .i32⟩
  | .hbm, ⟨50, _⟩ => ⟨S1, .i32⟩
  | .hbm, ⟨51, _⟩ => ⟨S_, .i32⟩
  | .hbm, ⟨52, _⟩ => ⟨S16384x1, .i32⟩
  | .hbm, ⟨53, _⟩ => ⟨S16384x1, .i1⟩
  | .hbm, ⟨54, _⟩ => ⟨S1x1, .i32⟩
  | .hbm, ⟨55, _⟩ => ⟨S16384x1, .i32⟩
  | .hbm, ⟨56, _⟩ => ⟨S16384x1, .i1⟩
  | .hbm, ⟨57, _⟩ => ⟨S16384x1, .i1⟩
  | .hbm, ⟨58, _⟩ => ⟨S_, .i1⟩
  | .hbm, ⟨59, _⟩ => ⟨S16384, .i1⟩
  | .hbm, ⟨60, _⟩ => ⟨S16384x1, .f32⟩
  | .hbm, ⟨61, _⟩ => ⟨S16384x1, .i1⟩
  | .hbm, ⟨62, _⟩ => ⟨S_, .f32⟩
  | .hbm, ⟨63, _⟩ => ⟨S16384x1, .f32⟩
  | .hbm, ⟨64, _⟩ => ⟨S16384x1, .f32⟩
  | .hbm, ⟨65, _⟩ => ⟨S16384, .f32⟩
  | .hbm, ⟨66, _⟩ => ⟨S16384, .f32⟩
  | .hbm, ⟨67, _⟩ => ⟨S1x26, .i32⟩
  | .hbm, ⟨68, _⟩ => ⟨S16384x26, .i32⟩
  | .hbm, ⟨69, _⟩ => ⟨S16384x26, .i32⟩
  | .hbm, ⟨70, _⟩ => ⟨S_, .i32⟩
  | .hbm, ⟨71, _⟩ => ⟨S16384x26, .i32⟩
  | .hbm, ⟨72, _⟩ => ⟨S16384x26, .i1⟩
  | .hbm, ⟨73, _⟩ => ⟨S_, .i32⟩
  | .hbm, ⟨74, _⟩ => ⟨S16384x26, .i32⟩
  | .hbm, ⟨75, _⟩ => ⟨S16384x26, .i32⟩
  | .hbm, ⟨76, _⟩ => ⟨S16384x26, .i32⟩
  | .hbm, ⟨77, _⟩ => ⟨S16384x26x1, .i32⟩
  | .hbm, ⟨78, _⟩ => ⟨S1, .i32⟩
  | .hbm, ⟨79, _⟩ => ⟨S_, .i32⟩
  | .hbm, ⟨80, _⟩ => ⟨S16384x26x1, .i32⟩
  | .hbm, ⟨81, _⟩ => ⟨S16384x26x1, .i1⟩
  | .hbm, ⟨82, _⟩ => ⟨S1x1x1, .i32⟩
  | .hbm, ⟨83, _⟩ => ⟨S16384x26x1, .i32⟩
  | .hbm, ⟨84, _⟩ => ⟨S16384x26x1, .i1⟩
  | .hbm, ⟨85, _⟩ => ⟨S16384x26x1, .i1⟩
  | .hbm, ⟨86, _⟩ => ⟨S_, .i1⟩
  | .hbm, ⟨87, _⟩ => ⟨S16384x26, .i1⟩
  | .hbm, ⟨88, _⟩ => ⟨S16384x26x16, .f32⟩
  | .hbm, ⟨89, _⟩ => ⟨S16384x26x16, .i1⟩
  | .hbm, ⟨90, _⟩ => ⟨S_, .f32⟩
  | .hbm, ⟨91, _⟩ => ⟨S16384x26x16, .f32⟩
  | .hbm, ⟨92, _⟩ => ⟨S16384x26x16, .f32⟩
  | .hbm, ⟨93, _⟩ => ⟨S_, .f32⟩
  | .hbm, ⟨94, _⟩ => ⟨S16384x16, .f32⟩
  | .hbm, ⟨95, _⟩ => ⟨S16384x16, .f32⟩
  | .hbm, ⟨96, _⟩ => ⟨S16384x26x16, .f32⟩
  | .hbm, ⟨97, _⟩ => ⟨S_, .f32⟩
  | .hbm, ⟨98, _⟩ => ⟨S16384x16, .f32⟩
  | .hbm, ⟨99, _⟩ => ⟨S16384x16, .f32⟩
  | .hbm, ⟨100, _⟩ => ⟨S_, .f32⟩
  | .hbm, ⟨101, _⟩ => ⟨S16384, .f32⟩
  | .hbm, ⟨102, _⟩ => ⟨S_, .f32⟩
  | .hbm, ⟨103, _⟩ => ⟨S16384, .f32⟩
  | .hbm, ⟨104, _⟩ => ⟨S16384, .f32⟩
  | .hbm, ⟨105, _⟩ => ⟨S16384x416, .f32⟩
  | .hbm, ⟨106, _⟩ => ⟨S16384x64, .f32⟩
  | .hbm, ⟨107, _⟩ => ⟨S1x64, .f32⟩
  | .hbm, ⟨108, _⟩ => ⟨S16384x64, .f32⟩
  | .hbm, ⟨109, _⟩ => ⟨S16384x64, .f32⟩
  | .hbm, ⟨110, _⟩ => ⟨S_, .f32⟩
  | .hbm, ⟨111, _⟩ => ⟨S16384x64, .f32⟩
  | .hbm, ⟨112, _⟩ => ⟨S16384x64, .f32⟩
  | .hbm, ⟨113, _⟩ => ⟨S16384x32, .f32⟩
  | .hbm, ⟨114, _⟩ => ⟨S1x32, .f32⟩
  | .hbm, ⟨115, _⟩ => ⟨S16384x32, .f32⟩
  | .hbm, ⟨116, _⟩ => ⟨S16384x32, .f32⟩
  | .hbm, ⟨117, _⟩ => ⟨S_, .f32⟩
  | .hbm, ⟨118, _⟩ => ⟨S16384x32, .f32⟩
  | .hbm, ⟨119, _⟩ => ⟨S16384x32, .f32⟩
  | .hbm, ⟨120, _⟩ => ⟨S16384x1, .f32⟩
  | .hbm, ⟨121, _⟩ => ⟨S1x1, .f32⟩
  | .hbm, ⟨122, _⟩ => ⟨S16384x1, .f32⟩
  | .hbm, ⟨123, _⟩ => ⟨S16384x1, .f32⟩
  | .hbm, ⟨124, _⟩ => ⟨S16384, .f32⟩
  | .hbm, ⟨125, _⟩ => ⟨S16384, .f32⟩
  | .hbm, ⟨126, _⟩ => ⟨S16384, .f32⟩
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_v11 : Ref sig .tc := ⟨.hbm, 67, rfl⟩
abbrev main_v12 : Ref sig .tc := ⟨.hbm, 68, rfl⟩
abbrev main_v13 : Ref sig .tc := ⟨.hbm, 69, rfl⟩
abbrev main_call2_c : Ref sig .tc := ⟨.hbm, 70, rfl⟩
abbrev main_call2_v0 : Ref sig .tc := ⟨.hbm, 71, rfl⟩
abbrev main_call2_v1 : Ref sig .tc := ⟨.hbm, 72, rfl⟩
abbrev main_call2_c_0 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_v5 : Ref sig .tc := ⟨.hbm, 77, rfl⟩
abbrev main_call2_c_1 : Ref sig .tc := ⟨.hbm, 78, rfl⟩
abbrev main_call2_c_2 : Ref sig .tc := ⟨.hbm, 79, rfl⟩
abbrev main_call2_v6 : Ref sig .tc := ⟨.hbm, 80, rfl⟩
abbrev main_call2_v7 : Ref sig .tc := ⟨.hbm, 81, rfl⟩
abbrev main_call2_v8 : Ref sig .tc := ⟨.hbm, 82, rfl⟩
abbrev main_call2_v9 : Ref sig .tc := ⟨.hbm, 83, rfl⟩
abbrev main_call2_v10 : Ref sig .tc := ⟨.hbm, 84, rfl⟩
abbrev main_call2_v11 : Ref sig .tc := ⟨.hbm, 85, rfl⟩
abbrev main_call2_c_3 : Ref sig .tc := ⟨.hbm, 86, rfl⟩
abbrev main_call2_v12 : Ref sig .tc := ⟨.hbm, 87, rfl⟩
abbrev main_call2_v13 : Ref sig .tc := ⟨.hbm, 88, rfl⟩
abbrev main_call2_v14 : Ref sig .tc := ⟨.hbm, 89, rfl⟩
abbrev main_call2_cst : Ref sig .tc := ⟨.hbm, 90, rfl⟩
abbrev main_call2_v15 : Ref sig .tc := ⟨.hbm, 91, rfl⟩
abbrev main_v14 : Ref sig .tc := ⟨.hbm, 92, rfl⟩
abbrev main_cst : Ref sig .tc := ⟨.hbm, 93, rfl⟩
abbrev main_v15 : Ref sig .tc := ⟨.hbm, 94, rfl⟩
abbrev main_v16 : Ref sig .tc := ⟨.hbm, 95, rfl⟩
abbrev main_v17 : Ref sig .tc := ⟨.hbm, 96, rfl⟩
abbrev main_cst_0 : Ref sig .tc := ⟨.hbm, 97, rfl⟩
abbrev main_v18 : Ref sig .tc := ⟨.hbm, 98, rfl⟩
abbrev main_v19 : Ref sig .tc := ⟨.hbm, 99, rfl⟩
abbrev main_cst_1 : Ref sig .tc := ⟨.hbm, 100, rfl⟩
abbrev main_v20 : Ref sig .tc := ⟨.hbm, 101, rfl⟩
abbrev main_cst_2 : Ref sig .tc := ⟨.hbm, 102, rfl⟩
abbrev main_v21 : Ref sig .tc := ⟨.hbm, 103, rfl⟩
abbrev main_v22 : Ref sig .tc := ⟨.hbm, 104, rfl⟩
abbrev main_v23 : Ref sig .tc := ⟨.hbm, 105, rfl⟩
abbrev main_v24 : Ref sig .tc := ⟨.hbm, 106, rfl⟩
abbrev main_v25 : Ref sig .tc := ⟨.hbm, 107, rfl⟩
abbrev main_v26 : Ref sig .tc := ⟨.hbm, 108, rfl⟩
abbrev main_v27 : Ref sig .tc := ⟨.hbm, 109, rfl⟩
abbrev main_call3_cst : Ref sig .tc := ⟨.hbm, 110, rfl⟩
abbrev main_call3_v0 : Ref sig .tc := ⟨.hbm, 111, rfl⟩
abbrev main_v28 : Ref sig .tc := ⟨.hbm, 112, rfl⟩
abbrev main_v29 : Ref sig .tc := ⟨.hbm, 113, rfl⟩
abbrev main_v30 : Ref sig .tc := ⟨.hbm, 114, rfl⟩
abbrev main_v31 : Ref sig .tc := ⟨.hbm, 115, rfl⟩
abbrev main_v32 : Ref sig .tc := ⟨.hbm, 116, rfl⟩
abbrev main_call4_cst : Ref sig .tc := ⟨.hbm, 117, rfl⟩
abbrev main_call4_v0 : Ref sig .tc := ⟨.hbm, 118, rfl⟩
abbrev main_v33 : Ref sig .tc := ⟨.hbm, 119, rfl⟩
abbrev main_v34 : Ref sig .tc := ⟨.hbm, 120, rfl⟩
abbrev main_v35 : Ref sig .tc := ⟨.hbm, 121, rfl⟩
abbrev main_v36 : Ref sig .tc := ⟨.hbm, 122, rfl⟩
abbrev main_v37 : Ref sig .tc := ⟨.hbm, 123, rfl⟩
abbrev main_v38 : Ref sig .tc := ⟨.hbm, 124, rfl⟩
abbrev main_v39 : Ref sig .tc := ⟨.hbm, 125, rfl⟩
abbrev main_v40 : Ref sig .tc := ⟨.hbm, 126, rfl⟩

abbrev nD : Nat := 1
abbrev τ : Topo := Topo.v7x

variable {F : FTy → Type} [FloatOps F]
-- ==== Proof.Range.lean ====
/-
  What the precondition says: every field index is below one thousand, as a natural number.
-/
module

public import proofs.«01_k».proof.Pre_in_range
public import Idealize.ShloMosaic.Lib.ReduceAll
public import Idealize.ShloMosaic.Lib.WordCmp

@[expose] public section

noncomputable section

namespace Cert.Proof

open Idealize.ShloMosaic

/-- Where the precondition's predicate is one, every entry of the field indices is below 1000. -/
theorem lt_of_in_range {F : FTy → Type} [FloatOps F] [Cert.Pre_in_range.Facts] {x : IVec Cert.Pre_in_range.S16384x26 32}
    {a1 : FVec F Cert.Pre_in_range.S224000x16 .f32} {a2 a3 : FVec F Cert.Pre_in_range.S100000x1 .f32} {a4 : FVec F Cert.Pre_in_range.S1 .f32}
    {a5 : FVec F Cert.Pre_in_range.S416x64 .f32} {a6 : FVec F Cert.Pre_in_range.S64 .f32} {a7 : FVec F Cert.Pre_in_range.S64x32 .f32}
    {a8 : FVec F Cert.Pre_in_range.S32 .f32} {a9 : FVec F Cert.Pre_in_range.S32x1 .f32} {a10 : FVec F Cert.Pre_in_range.S1 .f32}
    (h : Cert.Pre_in_range.fn x a1 a2 a3 a4 a5 a6 a7 a8 a9 a10 = fun _ => 1#1) (i : Cert.Pre_in_range.S16384x26.Idx) : (x i).toNat < 1000 := by
  have e : IntOp.andi (IntOp.cmpi .sge (x i) 0#32) (IntOp.cmpi .slt (x i) (BitVec.ofNat 32 1000)) = 1#1 :=
    Host.reduce_andi_all _ _ _ _ _ (congrFun h fun a => a.elim0) i
  rw [WordCmp.andi_sge_zero_slt_ofNat (by decide)] at e
  by_contra hn
  rw [decide_eq_false hn] at e
  exact absurd e (by decide)

end Cert.Proof

end
-- ==== Proof.ITile.lean ====
/-
  One vector subcore's task of the gather: its fourteen thousand three hundred and thirty-six rows of `main_v26`, in four
  trips of 3584 rows. A trip fetches its 3584 words of the index array into the tile's index scratch, gathers the rows
  of the table that they name into the row scratch by the indirect stream, and writes those out to its rows of the
  result. The task is stated at the contents of the table (`tb`), of the index array (`ix`) and of the result (`o0`)
  when the call begins, and its postcondition names what the result holds afterwards (`gathered`).
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.ShareLeaves
public import Idealize.ShloMosaic.Lib.StableHlo.Run
public import Idealize.ShloMosaic.Lib.Pipeline.Kit
public import Idealize.ShloMosaic.Lib.Tactic
public import Idealize.ShloMosaic.Lib.Pointwise
public import Idealize.ShloMosaic.Lib.ViewIndex
public import proofs.«01_k».proof.Proof.Gen.KernelIdeal
public import proofs.«01_k».proof.Proof.Gen.KernelIdeal.Skeleton

@[expose] public section

noncomputable section

namespace Cert.Proof.OnKernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's side conditions on its four handshake semaphores and on the buffers each SparseCore owns. -/
theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipeline's rounds, the transfers' counters -/

abbrev UH : Type := URounds (GSem nD τ sig) ℕ
abbrev UPipe : Type := URounds (GSem nD τ sig) Unit
abbrev UU : Type := UH × (UPipe × Counters)

local notation "𝕄" => MT nD τ sig (HIx 1) (Elt F) ℕ UU ℕ

abbrev EH : Emb UH (MT nD τ sig (HIx 1) (Elt F) ℕ UU ℕ) := embL

/-! ## The buffers -/

abbrev tLoc (d : Dev nD) : Loc nD τ sig := (SparseCore.T d).loc main_v7
abbrev iLoc (d : Dev nD) : Loc nD τ sig := (SparseCore.T d).loc main_v25
abbrev oLoc (d : Dev nD) : Loc nD τ sig := (SparseCore.T d).loc main_v26

local notation "tV" => (Memref.whole Cert.KernelIdeal.main_v7_scv : Memref Cert.KernelIdeal.sig Kind.scVector Space.hbm Cert.KernelIdeal.S28000x16 EltTy.f32)
local notation "iV" => (Memref.whole Cert.KernelIdeal.main_v25_scv : Memref Cert.KernelIdeal.sig Kind.scVector Space.hbm Cert.KernelIdeal.S458752 EltTy.i32)
local notation "oV" => (Memref.whole Cert.KernelIdeal.main_v26_scv : Memref Cert.KernelIdeal.sig Kind.scVector Space.hbm Cert.KernelIdeal.S458752x16 EltTy.f32)
local notation "sV" => (Memref.whole Cert.KernelIdeal.cc0_scratch0 : Memref Cert.KernelIdeal.sig Kind.scVector Space.vmem Cert.KernelIdeal.S3584 EltTy.i32)
local notation "rV" => (Memref.whole Cert.KernelIdeal.cc0_scratch1 : Memref Cert.KernelIdeal.sig Kind.scVector Space.vmem Cert.KernelIdeal.S3584x16 EltTy.f32)

/-! ## What the gather leaves -/

/-- The row of the table that an index word names (the last row, were the word out of range). -/
def rowOfWord (w : BitVec 32) : Fin 28000 := ⟨min w.toNat 27999, by omega⟩

/-- The result of the gather: row `r` is the table's row named by word `r` of the index array. -/
def gathered (tb : S28000x16.Idx → Elt F .f32) (ix : S458752.Idx → BitVec 32) : S458752x16.Idx → Elt F .f32 :=
  fun j => tb (ix2 (rowOfWord (ix (ix1 (j 0)))) (j 1))

section Contents

-- the table, the index array and the result when the call begins
variable (tb : (d : Dev nD) → Buf (Elt F) (tLoc d)) (ix : (d : Dev nD) → Buf (Elt F) (iLoc d)) (o0 : (d : Dev nD) → Buf (Elt F) (oLoc d))

/-- The result when the call ends. -/
abbrev oG (d : Dev nD) : Buf (Elt F) (oLoc d) := gathered (F := F) (tb d) (ix d)

/-- Every word of the index array names a row of the table. -/
def InRows : Prop := ∀ (d : Dev nD) (j : S458752.Idx), (ix d j).toNat < 28000

/-! ## One task's pieces -/

/-- The coordinates of the task on tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0
abbrev thV (d : Dev nD) (L : grid0.Coords) : Thread nD τ := V d (cV L) (jV L)

/-- Trip `t`'s words of the index array and its rows of the result, as task `L` addresses them; the table whole. -/
abbrev iK (L : grid0.Coords) (t : Fin k0_t1_loop.trips) : Memref sig .scVector .hbm S3584 .i32 :=
  (iV).slice (Rect.unit (s := S458752) (k0_off1 L t) S3584.size (k0_off1_inb L t)) (fun _ => rfl)
abbrev oK (L : grid0.Coords) (t : Fin k0_t1_loop.trips) : Memref sig .scVector .hbm S3584x16 .f32 :=
  (oV).slice (Rect.unit (s := S458752x16) (k0_off2 L t) S3584x16.size (k0_off2_inb L t)) (fun _ => rfl)
abbrev tAllK : Memref sig .scVector .hbm S28000x16 .f32 :=
  (tV).slice (Rect.unit (s := S28000x16) ![0, 0] S28000x16.size inb_S28000x16_S28000x16_0_0) (fun _ => rfl)

/-- Task `L`'s share of the table and of the index array, which all thirty-two tasks read at once: the full share halved
    once over the SparseCores and four times over a SparseCore's tiles. -/
abbrev shareL (L : grid0.Coords) : PosShare TreeShare :=
  ShareLeaves.leaf 4 (ShareLeaves.leaf 1 fullShare (L 0)) (L 1)

abbrev tSh (d : Dev nD) (L : grid0.Coords) : sProp 𝕄 := (tV).view.loc (thV d L) ↦{shareL L} tb d
abbrev iSh (d : Dev nD) (L : grid0.Coords) : sProp 𝕄 := (iV).view.loc (thV d L) ↦{shareL L} ix d
abbrev oCh (d : Dev nD) (L : grid0.Coords) (f : Buf (Elt F) (oLoc d)) (t : Fin k0_t1_loop.trips) : sProp 𝕄 :=
  (oK L t).view.loc (thV d L) ↦[(oK L t).view.set]{fullShare} f

/-- What task `L` is handed and what it brings back. -/
abbrev goL (d : Dev nD) (L : grid0.Coords) : sProp 𝕄 :=
  iprop(tSh tb d L ∗ iSh ix d L ∗ bigSep Finset.univ (oCh d L (o0 d)))
abbrev tdL (d : Dev nD) (L : grid0.Coords) : sProp 𝕄 :=
  iprop(tSh tb d L ∗ iSh ix d L ∗ bigSep Finset.univ (oCh d L (oG tb ix d)))

variable [FloatOps F]

/-! ## One trip's value -/

section Value
variable (d : Dev nD) (L : grid0.Coords) (t : Fin k0_t1_loop.trips)

omit [FloatOps F] in
/-- Word `x` of trip `t`'s words of the index array is its word `28672 * i + 14336 * c + 3584 * t + x`. -/
theorem iK_emb (x : S3584.Idx) : (((iK L t).view.emb x : S458752.Idx) 0).val = 28672 * (L 1).val + 14336 * (L 0).val + 3584 * t.val + (x 0).val := by
  show (k0_off1 L t) 0 + 1 * (x 0).val = _
  rw [k0_off1_eq]; simp
omit [FloatOps F] in
theorem oK_emb0 (x : S3584x16.Idx) : (((oK L t).view.emb x : S458752x16.Idx) 0).val = 28672 * (L 1).val + 14336 * (L 0).val + 3584 * t.val + (x 0).val := by
  show (k0_off2 L t) 0 + 1 * (x 0).val = _
  rw [k0_off2_eq]; simp
omit [FloatOps F] in
theorem oK_emb1 (x : S3584x16.Idx) : (((oK L t).view.emb x : S458752x16.Idx) 1).val = (x 1).val := by
  show (k0_off2 L t) 1 + 1 * (x 1).val = _
  rw [k0_off2_eq]; simp

omit [FloatOps F] in
/-- The words the stream reads are in range: they are words of the index array. -/
theorem inb_of_rows (hpre : InRows (F := F) ix) (fs : Buf (Elt F) ((thV d L).loc cc0_scratch0)) (pay : S3584.Idx → Elt F .i32)
    (hpay : pay = (iK L t).view.read (Elt F) (ix d)) :
    ∀ x, ((sV).view.read (Elt F) (View.write (Elt F) (sV).view fs pay Finset.univ) x).toNat < S28000x16.size gathers_S28000x16_S3584x16.axis := by
  subst hpay; intro x
  rw [View.write_whole_univ]
  simp only [Memref.view_whole, View.read_whole]
  rw [show ∀ j, (iK L t).view.read (Elt F) (ix d) j = ix d ((iK L t).view.emb j) from fun j => (View.read_apply _ _).trans (cast_eq _ _)]
  exact hpre d _

set_option backward.isDefEq.respectTransparency.types false in
omit [FloatOps F] in
/-- What trip `t` writes out is the gathered rows: row `x` of the row scratch is the table's row that word `x` of the
    fetched words names. -/
theorem landed (hpre : InRows (F := F) ix) (fs : Buf (Elt F) ((thV d L).loc cc0_scratch0)) (fr : Buf (Elt F) ((thV d L).loc cc0_scratch1))
    (pi : S3584.Idx → Elt F .i32) (hpi : pi = (iK L t).view.read (Elt F) (ix d))
    (hn : S3584.numel = S3584x16.size gathers_S28000x16_S3584x16.axis')
    (hin : ∀ x, ((sV).view.read (Elt F) (View.write (Elt F) (sV).view fs pi Finset.univ) x).toNat < S28000x16.size gathers_S28000x16_S3584x16.axis)
    (pay : S3584x16.Idx → Elt F .f32)
    (hpay : pay = (rV).view.read (Elt F) (View.write (Elt F) (rV).view fr (SparseCore.gatherPayload gathers_S28000x16_S3584x16
      ((tAllK).view.read (Elt F) (tb d)) (SparseCore.rows ((sV).view.read (Elt F) (View.write (Elt F) (sV).view fs pi Finset.univ)) hn hin)) Finset.univ)) :
    ∀ j ∈ (oK L t).view.set, (oK L t).view.writes (Elt F) (o0 d) [⟨Rect.whole S3584x16, pay⟩] j = oG tb ix d j := by
  intro j hj
  obtain ⟨x, -, rfl⟩ := Finset.mem_map.mp hj
  refine View.eq_of_read_eq (v := (oK L t).view) (x := x) ?_
  have h1 := View.read_writes_cons_emb (Val := Elt F) (v := (oK L t).view) (f := o0 d) (Rect.whole S3584x16) pay [] x
  rw [Rect.emb_whole_apply] at h1
  rw [h1, hpay, View.read_write_univ, View.read_apply]
  refine Eq.trans ?_ (cast_eq _ _).symm
  unfold SparseCore.gatherPayload oG gathered
  rw [View.read_apply]
  refine (cast_eq _ _).trans ?_
  refine congrArg (tb d) (funext fun b => Fin.ext ?_)
  match b with
  | ⟨0, h0⟩ =>
    show 0 + 1 * _ = _
    rw [show (⟨0, h0⟩ : Fin S28000x16.rank) = gathers_S28000x16_S3584x16.axis from rfl, Shape.Gathers.idx_axis]
    have hw : ∀ k, (sV).view.read (Elt F) (View.write (Elt F) (sV).view fs pi Finset.univ) k = ix d ((iK L t).view.emb k) := by
      intro k
      rw [View.read_write_univ, hpi]; exact (View.read_apply _ _).trans (cast_eq _ _)
    have hj : ∀ k : S3584.Idx, (k 0).val = (x 0).val → (iK L t).view.emb k = ix1 ((oK L t).view.emb x 0) := by
      intro k hk
      funext a; apply Fin.ext
      match a with
      | ⟨0, _⟩ => exact (iK_emb L t k).trans ((congrArg (28672 * (L 1).val + 14336 * (L 0).val + 3584 * t.val + ·) hk).trans (oK_emb0 L t x).symm)
    have hk : ∀ k : Fin S3584.numel, k.val = (x 0).val → ((S3584.rowMajor.symm k) 0).val = (x 0).val := by
      intro k hk
      rw [← Shape.rowMajor_val_one, Equiv.apply_symm_apply]; exact hk
    show 0 + 1 * ((sV).view.read (Elt F) (View.write (Elt F) (sV).view fs pi Finset.univ) _).toNat = min _ 27999
    rw [hw]
    have e := hj (S3584.rowMajor.symm (Fin.cast hn.symm (x gathers_S28000x16_S3584x16.axis'))) (hk _ rfl)
    refine (congrArg (fun q => 0 + 1 * (ix d q).toNat) e).trans ?_
    have := hpre d (ix1 ((oK L t).view.emb x 0))
    show 0 + 1 * (ix d (ix1 ((oK L t).view.emb x 0))).toNat = min (ix d (ix1 ((oK L t).view.emb x 0))).toNat 27999
    omega
  | ⟨1, h1⟩ =>
    have h := Shape.Gathers.idx_of_ne gathers_S28000x16_S3584x16
      (SparseCore.rows ((sV).view.read (Elt F) (View.write (Elt F) (sV).view fs pi Finset.univ)) hn hin) x ⟨1, h1⟩ Nat.one_ne_zero
    exact (show 0 + 1 * (gathers_S28000x16_S3584x16.idx (SparseCore.rows ((sV).view.read (Elt F) (View.write (Elt F) (sV).view fs pi Finset.univ)) hn hin) x ⟨1, h1⟩).val
      = (x 1).val by rw [h, Nat.zero_add, Nat.one_mul]; rfl).trans (oK_emb1 L t x).symm

end Value

/-! ## The task's own semaphores and scratch -/

section Tile
variable (d : Dev nD) (L : grid0.Coords)

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scratch2.sem)
abbrev cCcell (d : Dev nD) (c : Fin τ.nSC) (i : Fin τ.nSub) : GSem nD τ sig := (V d c i, .dma cc0_scoped1.sem)

omit [FloatOps F] in
/-- A task's three DMA semaphores are among its own: they are them, at zero, and the rest. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

omit [FloatOps F] in
/-- A task's two scratch buffers are among its own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- After `k` trips: the first `k` trips' rows hold the gathered rows, the others what they held; the shares of the table
    and of the index array, the two scratch buffers at some contents, the three semaphores at zero. -/
def inv (O : CellTallies nD τ sig (HIx 1)) (W : Waits sig (HIx 1)) (k : Nat) (_ : PUnit) : sProp 𝕄 :=
  iprop(Transfers.MayWaits (thV d L) (default : HIx 1) O
    ∗ tSh tb d L ∗ iSh ix d L
    ∗ (bigSep Finset.univ fun t => oCh d L (if t.val < k then oG tb ix d else o0 d) t)
    ∗ (∃ f, (sV).view.loc (thV d L) ↦{fullShare} f)
    ∗ (∃ f, (rV).view.loc (thV d L) ↦{fullShare} f)
    ∗ semVal (thV d L, SemLoc.dma cc0_scoped0.sem) 0 ∗ semVal (thV d L, SemLoc.dma cc0_scratch2.sem) 0 ∗ semVal (thV d L, SemLoc.dma cc0_scoped1.sem) 0
    ∗ ∃ W', ⌜∀ p ∈ W', p ∈ W ∨ p.2 = none⌝ ∗ owes (thV d L) O W')

omit [FloatOps F] in
/-- The rows of the other trips are done after trip `k` as they were before it. -/
theorem others_done (k : Fin k0_t1_loop.trips) :
    (bigSep (Finset.univ.erase k) fun t => oCh d L (if t.val < k.val then oG tb ix d else o0 d) t)
      = (bigSep (Finset.univ.erase k) fun t => oCh d L (if t.val < k.val + 1 then oG tb ix d else o0 d) t : sProp 𝕄) :=
  bigSep_congr fun t ht => by
    have hne : t.val ≠ k.val := fun e => (Finset.ne_of_mem_erase ht) (Fin.ext e)
    by_cases h : t.val < k.val
    · rw [if_pos h, if_pos (Nat.lt_succ_of_lt h)]
    · rw [if_neg h, if_neg (by omega)]
omit [FloatOps F] in
/-- Before the first trip no rows are done; -/
theorem none_done : (bigSep Finset.univ (oCh d L (o0 d)))
      = (bigSep Finset.univ fun t => oCh d L (if t.val < 0 then oG tb ix d else o0 d) t : sProp 𝕄) :=
  bigSep_congr fun t _ => by rw [if_neg (Nat.not_lt_zero _)]
omit [FloatOps F] in
/-- after the last all are. -/
theorem all_done : (bigSep Finset.univ fun t : Fin k0_t1_loop.trips => oCh d L (if t.val < k0_t1_loop.trips then oG tb ix d else o0 d) t)
      = (bigSep Finset.univ (oCh d L (oG tb ix d)) : sProp 𝕄) :=
  bigSep_congr fun t _ => by rw [if_pos t.isLt]

set_option maxHeartbeats 4000000 in
/-- One trip. -/
theorem trip (hpre : InRows (F := F) ix) (O : CellTallies nD τ sig (HIx 1)) (W : Waits sig (HIx 1)) (k : Fin k0_t1_loop.trips) (x : PUnit) :
    inv tb ix o0 d L O W k.val x
      ⊢ wp frame (wpE (defs₀ (F := F)) 𝒱₀ (thV d L) none) Set.univ
          (k0_t1_body (F := F) L tV (Memref.isWhole_whole _) iV (Memref.isWhole_whole _) oV (Memref.isWhole_whole _)
            sV (Memref.isWhole_whole _) rV (Memref.isWhole_whole _) cc0_scratch2 cc0_scoped0 cc0_scoped1 k ())
          fun r => inv tb ix o0 d L O W (k.val + 1) r := by
  unfold inv k0_t1_body
  rw [SparseCore.bigSep_erase' (Finset.mem_univ k), if_neg (Nat.lt_irrefl _)]
  iintro ⟨#Hmw, Ht, Hi, ⟨Ho, Hoth⟩, ⟨%fs, Hs⟩, ⟨%fr, Hr⟩, HsemA, HsemB, HsemC, %W', %hW', HO⟩
  sl_exec
  -- the indirect gather: the stream over the fetched words
  ihave Hts := (pointsTo_split_subset (q := shareL L) (f := tb d) (S := Finset.univ) (Finset.subset_univ (tAllK).view.set)).1 $$ Ht
  icases Hts with ⟨Hts, Htr⟩
  have hrs : (rV).view.set = Finset.univ := View.set_whole _
  have hss : (sV).view.set = Finset.univ := View.set_whole _
  ihave Hr := (Entails.of_eq (show ((rV).view.loc (thV d L) ↦{fullShare} fr : sProp 𝕄)
      = (rV).view.loc (thV d L) ↦[(rV).view.set]{fullShare} fr by rw [hrs])) $$ Hr
  ihave Hs := (Entails.of_eq (show ((sV).view.loc (thV d L) ↦{fullShare} View.write (Elt F) (sV).view fs (trip.sl.dma0 ix d L k) Finset.univ : sProp 𝕄)
      = (sV).view.loc (thV d L) ↦[(sV).view.set]{fullShare} View.write (Elt F) (sV).view fs (trip.sl.dma0 ix d L k) Finset.univ
      by rw [hss])) $$ Hs
  have hN : ∀ h : S28000x16.Gathers 0 S3584x16, ∑ j, ((rV).slice (S3584x16.rowRect h.axis' j) (S3584x16.stride_rowRect h.axis' j)).view.dmaCredit
      = (rV).view.dmaCredit := fun h => SparseCore.sum_rowCredit_eq_dmaCredit (rV) h.axis' fun _ => rfl
  have hin := inb_of_rows (F := F) ix d L k hpre fs (trip.sl.dma0 ix d L k) rfl
  iapply (SparseCore.wp_indirectGatherLocal countersEmb 𝒱₀ (thV d L) none (hg := gathers_S28000x16_S3584x16) (default : HIx 1)
      (rV).view.dmaCredit (hN _) (by decide) hin) $$ [Hts Hr Hs HsemB]
  · isplitl [Hts]; · iexact Hts
    isplitl [Hr]; · iexact Hr
    isplitl [Hs]; · iexact Hs
    iexact HsemB
  iintro Hfl
  sl_exec
  iapply (Transfers.wp_waitLocalO countersEmb 𝒱₀ (thV d L) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr, Hts, Hs⟩, HsemB, HO⟩
  ihave Ht := (pointsTo_split_subset (q := shareL L) (f := tb d) (S := Finset.univ) (Finset.subset_univ (tAllK).view.set)).2 $$ [Hts Htr]; · isplitl [Hts] <;> iassumption
  ihave Hr := (Entails.of_eq (show ((rV).view.loc (thV d L) ↦[(rV).view.set]{fullShare} _ : sProp 𝕄)
      = (rV).view.loc (thV d L) ↦{fullShare} _ by rw [hrs])) $$ Hr
  ihave Hs := (Entails.of_eq (show ((sV).view.loc (thV d L) ↦[(sV).view.set]{fullShare} _ : sProp 𝕄)
      = (sV).view.loc (thV d L) ↦{fullShare} _ by rw [hss])) $$ Hs
  sl_exec
  sl_step
  isplitr; · iexact Hmw
  isplitl [Ht]; · iexact Ht
  isplitl [Hi]; · iexact Hi
  isplitl [Ho Hoth]
  · rw [SparseCore.bigSep_erase' (Finset.mem_univ k), if_pos (Nat.lt_succ_self _)]
    isplitl [Ho]
    · iapply (Entails.of_eq (pointsTo_congr (landed tb ix o0 d L k hpre fs fr _ rfl _ hin _ rfl))); iexact Ho
    · iapply (Entails.of_eq (others_done tb ix o0 d L k)); iexact Hoth
  isplitl [Hs]; · iexists _; iexact Hs
  isplitl [Hr]; · iexists _; iexact Hr
  isplitl [HsemA]; · iexact HsemA
  isplitl [HsemB]; · iexact HsemB
  isplitl [HsemC]; · iexact HsemC
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

/-- The task on tile `(L 0, L 1)`: from its shares of the table and of the index array and its rows of the result, four
    trips; the rows then hold the gathered rows. -/
theorem tile_body (hF : (K (F := F)).Facts) (hpre : InRows (F := F) ix) (O : CellTallies nD τ sig (HIx 1)) (W : Waits sig (HIx 1)) (hO : ∀ g, O g none = 0) :
    iprop(levAts (K (F := F)).L (K (F := F)).lev ∗ emp
        ∗ goL tb ix o0 d L
        ∗ scopedBufs (thV d L) ∗ scopedSems0 (thV d L) ∗ owes (thV d L) O W)
      ⊢ wp frame (wpE (defs₀ (F := F)) 𝒱₀ (thV d L) none) Set.univ
          (cc0_gather_rows L tV (Memref.isWhole_whole _) iV (Memref.isWhole_whole _) oV (Memref.isWhole_whole _)
            sV (Memref.isWhole_whole _) rV (Memref.isWhole_whole _) cc0_scratch2 cc0_scoped0 cc0_scoped1)
          fun _ => iprop(tdL tb ix d L
            ∗ scopedBufs (thV d L) ∗ scopedSems0 (thV d L)
            ∗ ∃ W', ⌜∀ p ∈ W', p ∈ W ∨ p.2 = none⌝ ∗ owes (thV d L) O W') := by
  simp only [cc0_gather_rows_eq_skeleton]; unfold cc0_gather_rows_skel
  rw [(K (F := F)).scopedBufs_V hF d (cV L) (jV L), SparseCore.Cfg.scopedSems0_V (Val := Elt F) d (cV L) (jV L), ownSems0_V, ownBufs_V]
  iintro ⟨#Hlv, -, ⟨Ht, Hi, Ho⟩, ⟨⟨%fs, Hs⟩, ⟨%fr, Hr⟩, Hbufs⟩, ⟨HsemA, HsemB, HsemC, Hsems⟩, HO⟩
  ihave #Hmw := (show levAts (K (F := F)).L (K (F := F)).lev ⊢ Transfers.MayWaits (thV d L) (default : HIx 1) O from
    (K (F := F)).mayWaits_none (thr := thV d L) hO) $$ Hlv
  sl_for (inv tb ix o0 d L O W) $$ [Ht Hi Ho Hs Hr HsemA HsemB HsemC HO]
  case region =>
    intro k x
    exact trip tb ix o0 d L hpre O W k x
  · unfold inv
    isplitr; · iexact Hmw
    isplitl [Ht]; · iexact Ht
    isplitl [Hi]; · iexact Hi
    isplitl [Ho]
    · iapply (Entails.of_eq (none_done tb ix o0 d L)); iexact Ho
    isplitl [Hs]; · iexists _; iexact Hs
    isplitl [Hr]; · iexists _; iexact Hr
    isplitl [HsemA]; · iexact HsemA
    isplitl [HsemB]; · iexact HsemB
    isplitl [HsemC]; · iexact HsemC
    iexists W; isplitr
    · ipureintro; exact fun p hp => .inl hp
    · iexact HO
  iintro %_ HI
  unfold inv
  icases HI with ⟨-, Ht, Hi, Ho, ⟨%fs', Hs⟩, ⟨%fr', Hr⟩, HsemA, HsemB, HsemC, %W', %hW', HO⟩
  sl_step
  isplitl [Ht Hi Ho]
  · isplitl [Ht]; · iexact Ht
    isplitl [Hi]; · iexact Hi
    iapply (Entails.of_eq (all_done tb ix o0 d L)); iexact Ho
  isplitl [Hs Hr Hbufs]
  · isplitl [Hs]; · iexists _; iexact Hs
    isplitl [Hr]; · iexists _; iexact Hr
    iexact Hbufs
  isplitl [HsemA HsemB HsemC Hsems]
  · isplitl [HsemA]; · iexact HsemA
    isplitl [HsemB]; · iexact HsemB
    isplitl [HsemC]; · iexact HsemC
    iexact Hsems
  iexists W'; isplitr
  · ipureintro; exact hW'
  · iexact HO

end Tile

/-! ## What the call's handshakes carry -/

abbrev C2 : Type := Fin (grid0.bound 0)
abbrev S16 : Type := Fin (grid0.bound 1)

/-- The task on tile `i` of SparseCore `c`, by its coordinates. -/
abbrev LK (c : Fin ((K (F := F)).nCore 0)) (i : Fin ((K (F := F)).nSub 0)) : grid0.Coords := coordsV (Fin.cast rfl c) (Fin.cast rfl i)

/-- What a SparseCore is handed: its sixteen tasks' pieces; -/
def goAll (d : Dev nD) (c : C2) : sProp 𝕄 := bigSep Finset.univ fun i : S16 => goL tb ix o0 d (coordsV c i)
/-- and what it brings back: what they bring back. -/
def tdAll (d : Dev nD) (c : C2) : sProp 𝕄 := bigSep Finset.univ fun i : S16 => tdL tb ix d (coordsV c i)

omit [FloatOps F] in
theorem goL_storable (d : Dev nD) (L : grid0.Coords) : BI.Storable (upEmb : UEmb _ 𝕄) (goL tb ix o0 d L) := inferInstance
omit [FloatOps F] in
theorem tdL_storable (d : Dev nD) (L : grid0.Coords) : BI.Storable (upEmb : UEmb _ 𝕄) (tdL tb ix d L) := inferInstance
omit [FloatOps F] in
theorem goAll_storable (d : Dev nD) (c : C2) : BI.Storable (upEmb : UEmb _ 𝕄) (goAll tb ix o0 d c) := by
  unfold goAll; haveI := goL_storable tb ix o0 d; infer_instance
omit [FloatOps F] in
theorem tdAll_storable (d : Dev nD) (c : C2) : BI.Storable (upEmb : UEmb _ 𝕄) (tdAll tb ix d c) := by
  unfold tdAll; haveI := tdL_storable tb ix d; infer_instance

def P : (K (F := F)).Pay (nD := nD) (Val := Elt F) (Name := ℕ) (U := UU) where
  st := fun q d c => match q with | 0 => goAll tb ix o0 d c
  dn := fun q d c => match q with | 0 => tdAll tb ix d c
  go := fun q d c i => match q with | 0 => goL tb ix o0 d (LK c i)
  td := fun q d c i => match q with | 0 => tdL tb ix d (LK c i)
  x := fun _ _ => iprop(emp)

instance P_storable : (P (F := F) tb ix o0).IsStorable where
  st q d c := match q with | 0 => goAll_storable tb ix o0 d c
  dn q d c := match q with | 0 => tdAll_storable tb ix d c
  go q d c i := match q with | 0 => goL_storable tb ix o0 d (LK c i)
  td q d c i := match q with | 0 => tdL_storable tb ix d (LK c i)

/-! ## The obligations of the call -/

theorem defs₀_vector (c : Fin τ.nSC) (s : Fin τ.nSub) :
    defs₀ (F := F) (.scVector c s) 0 ()
      = SparseCore.onTile hcore0 hsub0 (fun c s => cc0_gather_rows (coordsV c s)
          tV (Memref.isWhole_whole _) iV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task of the call meets its obligation. -/
theorem tileObl (hF : (K (F := F)).Facts) (hpre : InRows (F := F) ix) : (K (F := F)).TileObl (D (F := F)) 𝒱 (P tb ix o0) v₀ 0 := by
  intro d c i O W hO _ _
  simp only [show (P tb ix o0).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body tb ix o0 d (coordsV ⟨_, hci.1⟩ ⟨_, hci.2⟩) hF hpre O W hO).trans (wp_mono frame _ _ fun _ => obl_post)

omit [FloatOps F] in
theorem hand_over (A B : sProp 𝕄) : A ⊢ |={Set.univ}=> iprop(A ∗ (B -∗ B)) := by
  iintro H; imodintro
  isplitl [H]; · iexact H
  iintro H; iexact H

/-- A SparseCore's sequencer hands its tasks their pieces, which are what it was handed, and collects theirs. -/
theorem vecSplit : (K (F := F)).VecSplit' (P tb ix o0) 0 := by
  intro d c
  refine (hand_over (goAll tb ix o0 d c) (tdAll tb ix d c))

/-! ## The rows and the shares over all the tasks -/

section Deal
variable (d : Dev nD)

abbrev T4 : Type := Fin k0_t1_loop.trips

/-- The rows of the result that trip `t` of the task on tile `i` of SparseCore `c` writes. -/
abbrev oSet (x : C2 × S16 × T4) : Finset S458752x16.Idx := (oK (coordsV x.1 x.2.1) x.2.2).view.set

omit [FloatOps F] in
theorem trips_eq : k0_t1_loop.trips = 4 := by decide

omit [FloatOps F] in
/-- They are the 3584 rows from row `28672 * i + 14336 * c + 3584 * t`. -/
theorem mem_oSet (x : C2 × S16 × T4) (j : S458752x16.Idx) :
    j ∈ oSet x ↔ 28672 * x.2.1.val + 14336 * x.1.val + 3584 * x.2.2.val ≤ (j 0).val
      ∧ (j 0).val < 28672 * x.2.1.val + 14336 * x.1.val + 3584 * x.2.2.val + 3584 := by
  have hs : oSet x = (Rect.unit (s := S458752x16) (k0_off2 (coordsV x.1 x.2.1) x.2.2) S3584x16.size (k0_off2_inb (coordsV x.1 x.2.1) x.2.2)).set := by
    show ((View.whole (main_v26_scv : Ref sig .scVector)).slice _).set = _
    rw [View.set_slice]; exact Finset.map_refl
  rw [hs, Rect.mem_set_unit, k0_off2_eq]
  constructor
  · intro h; exact h 0
  · intro h a
    match a with
    | ⟨0, _⟩ => exact h
    | ⟨1, _⟩ => exact ⟨Nat.zero_le _, by have := (j 1).isLt; simpa using this⟩

omit [FloatOps F] in
theorem oSet_disjoint : ∀ x ∈ (Finset.univ : Finset (C2 × S16 × T4)), ∀ y ∈ (Finset.univ : Finset (C2 × S16 × T4)), x ≠ y → Disjoint (oSet x) (oSet y) := by
  rintro ⟨c, i, t⟩ - ⟨c', i', t'⟩ - hne
  rw [Finset.disjoint_left]
  intro j hj hj'
  rw [mem_oSet] at hj hj'
  have h4 := trips_eq
  have hc : c.val < 2 := c.isLt
  have hc' : c'.val < 2 := c'.isLt
  have hi : i.val < 16 := i.isLt
  have hi' : i'.val < 16 := i'.isLt
  have ht : t.val < 4 := h4 ▸ t.isLt
  have ht' : t'.val < 4 := h4 ▸ t'.isLt
  dsimp only at hj hj'
  refine hne ?_
  have e1 : c = c' := Fin.ext (by omega)
  have e2 : i = i' := Fin.ext (by omega)
  have e3 : t = t' := Fin.ext (by omega)
  rw [e1, e2, e3]

omit [FloatOps F] in
theorem oSet_cover : (Finset.univ : Finset (C2 × S16 × T4)).biUnion oSet = Finset.univ := by
  refine Finset.eq_univ_of_forall fun j => ?_
  have hj : (j 0).val < 458752 := (j 0).isLt
  have h4 := trips_eq
  refine Finset.mem_biUnion.mpr ⟨(⟨(j 0).val / 14336 % 2, show _ < 2 by omega⟩, ⟨(j 0).val / 28672, show _ < 16 by omega⟩, ⟨(j 0).val / 3584 % 4, by omega⟩), Finset.mem_univ _, ?_⟩
  rw [mem_oSet]
  dsimp only
  omega

omit [FloatOps F] in
/-- The result whole is every trip's rows of every task. -/
theorem oPts_deal (f : Buf (Elt F) (oLoc d)) :
    (oLoc d ↦{fullShare} f : sProp 𝕄)
      = bigSep Finset.univ fun c : C2 => bigSep Finset.univ fun i : S16 => bigSep Finset.univ fun t : T4 => oCh d (coordsV c i) f t := by
  have h : (oLoc d ↦{fullShare} f : sProp 𝕄) = bigSep Finset.univ fun x : C2 × S16 × T4 => oLoc d ↦[oSet x]{fullShare} f := by
    rw [← pointsTo_biUnion Finset.univ (ℓ := oLoc d) oSet oSet_disjoint, oSet_cover]; try rfl
  rw [h, bigSep_univ_prod]
  refine bigSep_congr fun c _ => ?_
  rw [bigSep_univ_prod]

omit [FloatOps F] in
/-- A buffer whole is the tasks' shares of it. -/
theorem pts_deal {ℓ : Loc nD τ sig} (f : Buf (Elt F) ℓ) :
    (ℓ ↦{fullShare} f : sProp 𝕄)
      = bigSep Finset.univ fun c : C2 => bigSep Finset.univ fun i : S16 => ℓ ↦{shareL (coordsV c i)} f := by
  rw [ShareLeaves.pointsTo_leaves Finset.univ f 1 fullShare]
  refine bigSep_congr fun c _ => ?_
  exact ShareLeaves.pointsTo_leaves Finset.univ f 4 _

omit [FloatOps F] in
theorem deal3 (A B C : C2 → S16 → sProp 𝕄) :
    (bigSep Finset.univ fun c : C2 => bigSep Finset.univ fun i : S16 => iprop(A c i ∗ B c i ∗ C c i))
      = iprop((bigSep Finset.univ fun c : C2 => bigSep Finset.univ fun i : S16 => A c i)
        ∗ (bigSep Finset.univ fun c : C2 => bigSep Finset.univ fun i : S16 => B c i)
        ∗ bigSep Finset.univ fun c : C2 => bigSep Finset.univ fun i : S16 => C c i) := by
  simp only [bigSep_sep']

omit [FloatOps F] in
/-- The table, the index array and the result, whole, are what the two SparseCores are handed; -/
theorem st_deal :
    (bigSep Finset.univ fun c : Fin ((K (F := F)).nCore 0) => (P tb ix o0).st 0 d c)
      = iprop((tLoc d ↦{fullShare} tb d) ∗ (iLoc d ↦{fullShare} ix d) ∗ (oLoc d ↦{fullShare} o0 d) : sProp 𝕄) := by
  show (bigSep Finset.univ fun c : C2 => goAll tb ix o0 d c) = _
  unfold goAll
  refine (deal3 (fun c i => tSh tb d (coordsV c i)) (fun c i => iSh ix d (coordsV c i))
    (fun c i => bigSep Finset.univ (oCh d (coordsV c i) (o0 d)))).trans ?_
  rw [← oPts_deal]
  exact congrArg₂ (fun a b : sProp 𝕄 => iprop(a ∗ b ∗ (oLoc d ↦{fullShare} o0 d))) (pts_deal (ℓ := tLoc d) (tb d)).symm (pts_deal (ℓ := iLoc d) (ix d)).symm

omit [FloatOps F] in
/-- and what the SparseCores bring back is the table and the index array as they were and the result gathered. -/
theorem dn_deal :
    (bigSep Finset.univ fun c : Fin ((K (F := F)).nCore 0) => (P tb ix o0).dn 0 d c)
      = iprop((tLoc d ↦{fullShare} tb d) ∗ (iLoc d ↦{fullShare} ix d) ∗ (oLoc d ↦{fullShare} oG tb ix d) : sProp 𝕄) := by
  show (bigSep Finset.univ fun c : C2 => tdAll tb ix d c) = _
  unfold tdAll
  refine (deal3 (fun c i => tSh tb d (coordsV c i)) (fun c i => iSh ix d (coordsV c i))
    (fun c i => bigSep Finset.univ (oCh d (coordsV c i) (oG tb ix d)))).trans ?_
  rw [← oPts_deal]
  exact congrArg₂ (fun a b : sProp 𝕄 => iprop(a ∗ b ∗ (oLoc d ↦{fullShare} oG tb ix d))) (pts_deal (ℓ := tLoc d) (tb d)).symm (pts_deal (ℓ := iLoc d) (ix d)).symm

end Deal
end Contents
end Cert.Proof.OnKernelIdeal

end
-- ==== Proof.IRegion.lean ====
/-
  The TensorCore kernel of the program (`cc1__fm_mlp_body`, sixty-four points of 256 rows each): its body run by the
  executor to a closed form of the result block (`blockVal`), the pipeline's proof data, the region entered from any
  contents of the core's buffers, and what the result array holds after it, index by index (`mlpOut`).
-/
module

public import proofs.«01_k».proof.Proof.ITile
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameTail
public import Idealize.ShloMosaic.Lib.Pipeline.RegionArraysS
public import Idealize.ShloMosaic.Lib.Pipeline.Value

@[expose] public section

noncomputable section

namespace Cert.Proof.OnKernelIdeal

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type} [FloatOps F]

local notation "𝕄" => MT nD τ sig (HIx 1) (Elt F) ℕ UU ℕ

/-! ## The body -/

abbrev rFlat : Rect S256x448 := Rect.unit (s := S256x448) ![0, 0] S256x416.size inb_S256x448_S256x416_0_0
abbrev rUser : Rect S256x448 := Rect.unit (s := S256x448) ![0, 416] S256x1.size inb_S256x448_S256x1_0_416
abbrev rItem : Rect S256x448 := Rect.unit (s := S256x448) ![0, 432] S256x1.size inb_S256x448_S256x1_0_432
abbrev rCat : Rect S416x80 := Rect.unit (s := S416x80) ![0, 0] S416x80.size inb_S416x80_S416x80_0_0
abbrev rB1 : Rect S1x64 := Rect.unit (s := S1x64) ![0, 0] S1x64.size inb_S1x64_S1x64_0_0
abbrev rW2 : Rect S64x32 := Rect.unit (s := S64x32) ![0, 0] S64x32.size inb_S64x32_S64x32_0_0
abbrev rB2 : Rect S1x32 := Rect.unit (s := S1x32) ![0, 0] S1x32.size inb_S1x32_S1x32_0_0
abbrev rW3 : Rect S32x1 := Rect.unit (s := S32x1) ![0, 0] S32x1.size inb_S32x1_S32x1_0_0
abbrev rC0 : Rect S1x1 := Rect.unit (s := S1x1) ![0, 0] S1x1.size inb_S1x1_S1x1_0_0
abbrev rOut : Rect S256 := Rect.unit (s := S256) ![0] S256.size inb_S256_S256_0

/-- The result block of the body, from the seven input blocks: the gathered rows' block `x0`, `[W1 | MSUM]` `x1`, `W2` `x2`,
    `W3` `x3`, `b1` `x4`, `b2` `x5`, the sum of the two scalars `x6`. -/
def blockVal (x0 : S256x448.Idx → Elt F .f32) (x1 : S416x80.Idx → Elt F .f32) (x2 : S64x32.Idx → Elt F .f32)
    (x3 : S32x1.Idx → Elt F .f32) (x4 : S1x64.Idx → Elt F .f32) (x5 : S1x32.Idx → Elt F .f32) (x6 : S1x1.Idx → Elt F .f32) :
    S256.Idx → Elt F .f32 :=
  k1_pay1 (k1_pay4 (View.ld x0 rFlat) (View.ld x1 rCat)) (k1_pay5 (View.ld x0 rUser)) (k1_pay6 (View.ld x0 rItem))
    (k1_pay7 (View.ld x0 rFlat) (View.ld x1 rCat) (View.ld x4 rB1) (View.ld x2 rW2) (View.ld x5 rB2) (View.ld x3 rW3))
    (View.ld x6 rC0 (Shape.Idx.first (s := rC0.shape) (numel1_S1x1.symm ▸ Nat.one_pos)))

omit [FloatOps F] in
theorem mem_rOut (y : S256.Idx) : y ∈ rOut.set :=
  (Rect.mem_set_unit (inb := inb_S256_S256_0)).mpr fun a => by
    match a with
    | ⟨0, _⟩ => exact ⟨Nat.zero_le _, by have : (y 0).val < 256 := (y 0).isLt; simpa using this⟩

omit [FloatOps F] in
theorem cover_out (w : S256.Idx → Elt F .f32) (y : S256.Idx) :
    ∃ p ∈ [(⟨rOut, w⟩ : View.Piece (Elt F) S256 .f32)], y ∈ p.1.set :=
  ⟨_, List.mem_singleton_self _, mem_rOut y⟩

/-- One write through the whole block leaves its payload. -/
theorem canon_out (w : S256.Idx → Elt F .f32) : View.canon [(⟨rOut, w⟩ : View.Piece (Elt F) S256 .f32)] = w :=
  View.canon_unit_zero (funext fun a => by fin_cases a; rfl) _ _

set_option maxHeartbeats 1000000 in
/-- The body, from the inputs' staging buffers at their blocks and the result's at anything, leaves the inputs' as they were and
    the result's at `blockVal` of them. -/
theorem body_run (c : Dev nD) (E : Set ℕ) (i : grid1.Coords)
    (M1 : Memref sig .tc .vmem S256x448 .f32) (h1 : M1.IsWhole) (M2 : Memref sig .tc .vmem S416x80 .f32) (h2 : M2.IsWhole)
    (M3 : Memref sig .tc .vmem S64x32 .f32) (h3 : M3.IsWhole) (M4 : Memref sig .tc .vmem S32x1 .f32) (h4 : M4.IsWhole)
    (M5 : Memref sig .tc .vmem S1x64 .f32) (h5 : M5.IsWhole) (M6 : Memref sig .tc .vmem S1x32 .f32) (h6 : M6.IsWhole)
    (M7 : Memref sig .tc .smem S1x1 .f32) (h7 : M7.IsWhole) (M8 : Memref sig .tc .vmem S256 .f32) (h8 : M8.IsWhole)
    (x0 : S256x448.Idx → Elt F .f32) (x1 : S416x80.Idx → Elt F .f32) (x2 : S64x32.Idx → Elt F .f32)
    (x3 : S32x1.Idx → Elt F .f32) (x4 : S1x64.Idx → Elt F .f32) (x5 : S1x32.Idx → Elt F .f32) (x6 : S1x1.Idx → Elt F .f32)
    (Q : PUnit → sProp 𝕄) :
    iprop(owns (c : Thread nD τ) M1 fullShare x0 ∗ owns (c : Thread nD τ) M2 fullShare x1 ∗ owns (c : Thread nD τ) M3 fullShare x2
        ∗ owns (c : Thread nD τ) M4 fullShare x3 ∗ owns (c : Thread nD τ) M5 fullShare x4 ∗ owns (c : Thread nD τ) M6 fullShare x5
        ∗ owns (c : Thread nD τ) M7 fullShare x6 ∗ (∃ y, owns (c : Thread nD τ) M8 fullShare y)
        ∗ (iprop(owns (c : Thread nD τ) M1 fullShare x0 ∗ owns (c : Thread nD τ) M2 fullShare x1 ∗ owns (c : Thread nD τ) M3 fullShare x2
            ∗ owns (c : Thread nD τ) M4 fullShare x3 ∗ owns (c : Thread nD τ) M5 fullShare x4 ∗ owns (c : Thread nD τ) M6 fullShare x5
            ∗ owns (c : Thread nD τ) M7 fullShare x6 ∗ owns (c : Thread nD τ) M8 fullShare (blockVal x0 x1 x2 x3 x4 x5 x6)) -∗ Q ⟨⟩))
      ⊢ wp frame (wpE (defs₀ (F := F)) Variants.none (c : Thread nD τ) none) E
          (cc1__fm_mlp_body i M1 h1 M2 h2 M3 h3 M4 h4 M5 h5 M6 h6 M7 h7 M8 h8) Q := by
  simp only [cc1__fm_mlp_body_eq_skeleton]; unfold cc1__fm_mlp_body_skel
  simp only [k1_part1_eq_skeleton]
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%y, %f8, -, H8⟩, Hk⟩
  subst e1 e2 e3 e4 e5 e6 e7
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  iexists _; isplitr; swap; (· iexact H8)
  ipureintro
  exact (View.read_writes_eq_canon _ _ _ (cover_out _)).trans (canon_out _)

/-! ## The proof data of the pipeline, entered at a valuation of the core's buffers -/

section Data
variable (Wc : Dev nD → Valuation τ sig (Elt F)) (bnd : ℕ)

abbrev Arr (c : Dev nD) (b : Ref sig .tc) : Buf (Elt F) ((c : Thread nD τ).loc b) := Wc c (Proc.devRef .tc b)

/-- Window `w`'s block at point `t`, of the array it stages as the region finds it. -/
abbrev iblk (c : Dev nD) (w : Fin 8) (t : Fin cfg1.N) : ((cfg1.win w).xblock (cfg1.grid.coords t)).Idx → Elt F (cfg1.win w).elt :=
  ((cfg1.win w).blk t).view.read (Elt F) (Arr Wc c (Pipeline.arrRef spec1 w))

/-- The proof data: each input's buffer is left at its block, the result's at `blockVal` of the input blocks; nothing is owed, and what
    the core's waits have recorded stays within the levels up to `bnd`. -/
def dat (c : Dev nD) : Dat τ (Elt F) (HIx 1) ℕ UU ℕ cfg1 c where
  A w := Arr Wc c (Pipeline.arrRef spec1 w)
  after w t := match w with
    | ⟨0, _⟩ => iblk Wc c 0 t
    | ⟨1, _⟩ => iblk Wc c 1 t
    | ⟨2, _⟩ => iblk Wc c 2 t
    | ⟨3, _⟩ => iblk Wc c 3 t
    | ⟨4, _⟩ => iblk Wc c 4 t
    | ⟨5, _⟩ => iblk Wc c 5 t
    | ⟨6, _⟩ => iblk Wc c 6 t
    | ⟨7, _⟩ => blockVal (iblk Wc c 0 t) (iblk Wc c 1 t) (iblk Wc c 2 t) (iblk Wc c 3 t) (iblk Wc c 4 t) (iblk Wc c 5 t) (iblk Wc c 6 t)
  Φ _ := Pipeline.scopedRest (Ix := HIx 1) (Name := ℕ) (U := UU) (Lvl := ℕ) (Val := Elt F) spec1 c
  q _ := fullShare
  owed _ := 0
  recorded _ := {p | (K (F := F)).lev ((c : Thread nD τ), p.1) p.2 ≤ bnd}

theorem dat_A (c : Dev nD) (w : Fin cfg1.W) : (dat Wc bnd c).A w = Arr Wc c (Pipeline.arrRef spec1 w) := by dsimp only [dat]

theorem before_in (c : Dev nD) (w : Fin 8) (hw : (cfg1.win w).isOut = false)
    (hclip : ∀ t t' : Fin cfg1.N, (cfg1.win w).index t = (cfg1.win w).index t' →
      (cfg1.win w).clip (cfg1.grid.coords t) = (cfg1.win w).clip (cfg1.grid.coords t'))
    (hkeep : ∀ t, (cfg1.win w).cut (cfg1.grid.coords t) ((dat Wc bnd c).after w t) = (dat Wc bnd c).blockOf w t)
    (t : Fin cfg1.N) (d : (cfg1.win w).block.Idx → Elt F (cfg1.win w).elt) :
    (dat Wc bnd c).before w t d = (dat Wc bnd c).fetched w t d :=
  (dat Wc bnd c).before_in_eq_fetched w hw (fun _ => rfl) hclip hkeep t d

theorem before0 (c : Dev nD) (t : Fin cfg1.N) (d) : (dat Wc bnd c).before 0 t d = iblk Wc c 0 t :=
  before_in Wc bnd c 0 rfl (fun _ _ _ => rfl) (fun t => by dsimp only [dat]; rfl) t d
theorem before1 (c : Dev nD) (t : Fin cfg1.N) (d) : (dat Wc bnd c).before 1 t d = iblk Wc c 1 t :=
  before_in Wc bnd c 1 rfl (fun _ _ _ => rfl) (fun t => by dsimp only [dat]; rfl) t d
theorem before2 (c : Dev nD) (t : Fin cfg1.N) (d) : (dat Wc bnd c).before 2 t d = iblk Wc c 2 t :=
  before_in Wc bnd c 2 rfl (fun _ _ _ => rfl) (fun t => by dsimp only [dat]; rfl) t d
theorem before3 (c : Dev nD) (t : Fin cfg1.N) (d) : (dat Wc bnd c).before 3 t d = iblk Wc c 3 t :=
  before_in Wc bnd c 3 rfl (fun _ _ _ => rfl) (fun t => by dsimp only [dat]; rfl) t d
theorem before4 (c : Dev nD) (t : Fin cfg1.N) (d) : (dat Wc bnd c).before 4 t d = iblk Wc c 4 t :=
  before_in Wc bnd c 4 rfl (fun _ _ _ => rfl) (fun t => by dsimp only [dat]; rfl) t d
theorem before5 (c : Dev nD) (t : Fin cfg1.N) (d) : (dat Wc bnd c).before 5 t d = iblk Wc c 5 t :=
  before_in Wc bnd c 5 rfl (fun _ _ _ => rfl) (fun t => by dsimp only [dat]; rfl) t d
theorem before6 (c : Dev nD) (t : Fin cfg1.N) (d) : (dat Wc bnd c).before 6 t d = iblk Wc c 6 t :=
  before_in Wc bnd c 6 rfl (fun _ _ _ => rfl) (fun t => by dsimp only [dat]; rfl) t d

/-- The body obligation at every point. -/
theorem body_obligation (c : Dev nD) : BodyObligation (dat Wc bnd c) (defs₀ (F := F)) 𝒱₀ (none : HIx 1) Set.univ := fun t => by
  rw [bigSep_W1, bigSep_W1]
  rw [show (dat Wc bnd c).Φ t.succ = (dat Wc bnd c).Φ t.castSucc from rfl,
    show (dat Wc bnd c).owesAt none t.succ = (dat Wc bnd c).owesAt none t.castSucc from rfl]
  generalize (dat Wc bnd c).Φ t.castSucc = Ph
  generalize (dat Wc bnd c).owesAt none t.castSucc = Ow
  simp only [before0, before1, before2, before3, before4, before5, before6]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run c Set.univ (grid1.coords t) _ (hstage1_0 ((cfg1.slots t 0).cast nbuf1_0)) _ (hstage1_1 ((cfg1.slots t 1).cast nbuf1_1))
    _ (hstage1_2 ((cfg1.slots t 2).cast nbuf1_2)) _ (hstage1_3 ((cfg1.slots t 3).cast nbuf1_3)) _ (hstage1_4 ((cfg1.slots t 4).cast nbuf1_4))
    _ (hstage1_5 ((cfg1.slots t 5).cast nbuf1_5)) _ (hstage1_6 ((cfg1.slots t 6).cast nbuf1_6)) _ (hstage1_7 ((cfg1.slots t 7).cast nbuf1_7))
    (iblk Wc c 0 t) (iblk Wc c 1 t) (iblk Wc c 2 t) (iblk Wc c 3 t) (iblk Wc c 4 t) (iblk Wc c 5 t) (iblk Wc c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-! ## The region -/

/-- The one table of prefetched contents: none. -/
abbrev adm : (p : Fin 1) → (pcfgs (F := F) p).Adm := fun p => (cfgs p).toPCfg_adm

/-- The family of the program's one pipeline. -/
def pdats : (p : Fin 1) → (c : Dev nD) → Dat τ (Elt F) (HIx 1) ℕ UU ℕ (Pipeline.pin (pcfgs (F := F)) adm p) c
  | ⟨0, _⟩ => fun c => dat Wc bnd c

/-- What the core owes nothing of, its recorded waits within the levels up to `b`. -/
abbrev owesB (b : ℕ) (c : Dev nD) : sProp 𝕄 :=
  iprop(∃ W, ⌜(K (F := F)).WBelow (c : Thread nD τ) W b⌝ ∗ owes (c : Thread nD τ) (0 : CellTallies nD τ sig (HIx 1)) W)

/-- The buffers after the region: the result's array as the pipeline leaves it, every other as it was. -/
abbrev Wx (c : Dev nD) : Valuation τ sig (Elt F) := Pipeline.afterRegion (dat Wc bnd c) (Wc c)

theorem pdats_share (c : Dev nD) : ∀ w, (pdats Wc bnd 0 c).share w = fullShare := (pdats Wc bnd 0 c).share_full fun _ => rfl

set_option backward.isDefEq.respectTransparency.types false in
/-- The region over "every unscoped buffer at `Wc c`, nothing owed": left with every unscoped buffer at `Wx c`, nothing owed. -/
def reg : Pipeline.RegionSeg (pcfgs (F := F)) adm (pdats Wc bnd) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation Wc bnd c).loose
  hwaits := Pipeline.hwaits_of_owed_zero _ _ _ _ (K (F := F)).L (K (F := F)).lev 0 fun _ _ => rfl
  pre c := iprop(unscopedBufs c (fun b => Wc c (Proc.devRef .tc b)) ∗ owesB bnd c)
  post c := iprop(unscopedBufs c (fun b => Wx Wc bnd c (Proc.devRef .tc b)) ∗ owesB bnd c)
  X _ := BI.emp
  Y _ := BI.emp
  Z c := Pipeline.unscopedRest (Ix := HIx 1) (Name := ℕ) (U := UU) (Lvl := ℕ) spec1 c (fun b => Wc c (Proc.devRef .tc b))
  hentry c := by
    rw [Pipeline.ownSems0_none]
    have hsplit := Pipeline.arrays_of_unscopedBufs (p := 0) (pcfgs (F := F)) adm (pdats Wc bnd) launch1.win launch1.arr_whole c
      (pdats_share Wc bnd c) (fun b => Wc c (Proc.devRef .tc b)) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats Wc bnd 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats Wc bnd 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats Wc bnd) (pdats_share Wc bnd c) (fun b => Wc c (Proc.devRef .tc b)) (fun b => Wx Wc bnd c (Proc.devRef .tc b)) ((pdats Wc bnd 0 c).arrAt · cfg1.N)
      (fun w => (Pipeline.afterRegion_arr (dat Wc bnd c) (Wc c) launch1.win.arr_inj w).symm)
      (fun b hb => Pipeline.afterRegion_of_not_arr (dat Wc bnd c) (Wc c) fun w e => hb (Finset.mem_image.mpr ⟨w, Finset.mem_univ _, e.symm⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | h
      · exact h
      · obtain ⟨w, s, rfl⟩ := h
        exact Nat.zero_le _
    iexact HO

/-! ## The result array, index by index -/

theorem lt_N (i : S16384.Idx) : (i 0).val / 256 < cfg1.N := by
  have h : (i 0).val < 16384 := (i 0).isLt
  have : cfg1.N = 64 := N_1
  omega

/-- The point that computes result `i`. -/
abbrev ptOf (i : S16384.Idx) : Fin cfg1.N := ⟨(i 0).val / 256, lt_N i⟩

/-- The result: entry `i` is entry `i % 256` of the block computed at point `i / 256`. -/
def mlpOut (c : Dev nD) : S16384.Idx → Elt F .f32 := fun i =>
  blockVal (iblk Wc c 0 (ptOf i)) (iblk Wc c 1 (ptOf i)) (iblk Wc c 2 (ptOf i)) (iblk Wc c 3 (ptOf i)) (iblk Wc c 4 (ptOf i)) (iblk Wc c 5 (ptOf i))
    (iblk Wc c 6 (ptOf i)) (ix1 ⟨(i 0).val % 256, Nat.mod_lt _ (by decide)⟩)

omit [FloatOps F] in
theorem win7_facts : ∀ t : Fin cfg1.N, win1_7.index t 0 * win1_7.size 0 = t.val * 256 ∧ win1_7.xsize (grid1.coords t) 0 = 256 := by
  decide +kernel

omit [FloatOps F] in
theorem mem_blk7 (t : Fin cfg1.N) (i : S16384.Idx) :
    i ∈ ((cfg1.win 7).blk t).view.set ↔ t.val * 256 ≤ (i 0 : Nat) ∧ (i 0 : Nat) < t.val * 256 + 256 := by
  show i ∈ ((View.whole main_v33).slice (win1_7.rect t)).set ↔ _
  rw [View.set_slice_whole, Rect.mem_set_unit]
  have e := win7_facts t
  refine ⟨fun h => ?_, fun h a => ?_⟩
  · have : win1_7.index t 0 * win1_7.size 0 ≤ (i 0 : Nat) ∧ (i 0 : Nat) < win1_7.index t 0 * win1_7.size 0 + win1_7.xsize (grid1.coords t) 0 := h 0
    rw [e.1, e.2] at this; exact this
  · match a with
    | ⟨0, _⟩ => show win1_7.index t 0 * win1_7.size 0 ≤ (i 0 : Nat) ∧ (i 0 : Nat) < win1_7.index t 0 * win1_7.size 0 + win1_7.xsize (grid1.coords t) 0
                rw [e.1, e.2]; exact h

theorem flushed7 (c : Dev nD) (t : Fin cfg1.N) :
    (dat Wc bnd c).flushed 7 t = ((cfg1.win 7).blk t).view.read (Elt F) (mlpOut Wc c) := by
  show (cfg1.win 7).cut (grid1.coords t) ((dat Wc bnd c).after 7 t) = _
  dsimp only [dat]
  have e := win7_facts t
  funext y
  have hy : (y 0).val < 256 := (y 0).isLt
  have hv : (((cfg1.win 7).rect t).emb y 0 : Nat) = t.val * 256 + (y 0).val := by
    refine (Pipeline.Window.rect_emb_val win1_7 t y 0).trans ?_; show win1_7.index t 0 * win1_7.size 0 + _ = _; rw [e.1]
  show blockVal _ _ _ _ _ _ _ y = mlpOut Wc c (((cfg1.win 7).rect t).emb y)
  unfold mlpOut
  have hp : ptOf (((cfg1.win 7).rect t).emb y) = t := Fin.ext (by show (((cfg1.win 7).rect t).emb y 0 : Nat) / 256 = _; rw [hv]; omega)
  rw [hp]
  congr 1
  funext a
  match a with
  | ⟨0, _⟩ => exact Fin.ext (by show (y 0).val = (((cfg1.win 7).rect t).emb y 0 : Nat) % 256; rw [hv]; omega)

theorem cover7 (i : S16384.Idx) : ∃ t : Fin cfg1.N, (cfg1.win 7).flush t = true ∧ i ∈ ((cfg1.win 7).blk t).view.set :=
  ⟨ptOf i, flush1_7 _, (mem_blk7 _ i).mpr (by show (i 0).val / 256 * 256 ≤ _ ∧ _ < (i 0).val / 256 * 256 + 256; omega)⟩

/-- The result array after the region. -/
theorem final7 (c : Dev nD) : (dat Wc bnd c).arrAt 7 cfg1.N = mlpOut Wc c :=
  (dat Wc bnd c).arrAt_eq_of_cover 7 (mlpOut Wc c) (fun t _ => flushed7 Wc bnd c t) cover7

theorem Wx_out (c : Dev nD) : Wx Wc bnd c (Proc.devRef .tc main_v33) = mlpOut Wc c :=
  (Pipeline.afterRegion_arr (dat Wc bnd c) (Wc c) launch1.win.arr_inj 7).trans (final7 Wc bnd c)

/-- Every buffer but the result's is as it was. -/
theorem Wx_keeps (c : Dev nD) (r : Ref sig .tc) (h : r ≠ main_v33) : Wx Wc bnd c (Proc.devRef .tc r) = Wc c (Proc.devRef .tc r) :=
  Pipeline.afterRegion_keeps (dat Wc bnd c) (Wc c) launch1.win.arr_inj (fun _ => rfl) r fun w e => by
    match w with
    | ⟨0, _⟩ | ⟨1, _⟩ | ⟨2, _⟩ | ⟨3, _⟩ | ⟨4, _⟩ | ⟨5, _⟩ | ⟨6, _⟩ => rfl
    | ⟨7, _⟩ => exact absurd e.symm h

end Data
end Cert.Proof.OnKernelIdeal

end
-- ==== Proof.IMain.lean ====
/-
  The program's run. @main on a TensorCore is a line of host operations (`ops1`), the gather on the SparseCores, a second
  line (`ops2`) and the TensorCore kernel; each leaves the core's unscoped buffers at a valuation that is a function of
  the launch memory: `V1` after the first line, `V2` after the gather, `V3` after the second line, `V4` at the end. Every
  weakly fair execution terminates with every such buffer at `V4` and every semaphore at zero (`run_main`).
-/
module

public import proofs.«01_k».proof.Proof.IRegion
public import Idealize.ShloMosaic.Adequacy
public import Idealize.ShloMosaic.Init

@[expose] public section

noncomputable section

namespace Cert.Proof.OnKernelIdeal

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The two lines of host operations -/

/-- The operations before the gather: the compact table, the index array, the block-sum matrix. -/
abbrev ops1 : List (HloOp τ sig (Elt F)) :=
  [ StableHlo.nullary main_cst (fun i => FloatOps.ofBits .f32 (lit0 (S416x16.rowMajor i))),
    StableHlo.unary main_arg1 main_v0 ((extractStridedSlice S1000x16 ![0, 0] · slices_S224000x16_S1000x16_0_0) : (⟨S224000x16, .f32⟩ : BufTy).Contents (Elt F) → (⟨S1000x16, .f32⟩ : BufTy).Contents (Elt F)),
    StableHlo.unary main_arg1 main_v1 ((extractStridedSlice S1000x16 ![100000, 0] · slices_S224000x16_S1000x16_100000_0) : (⟨S224000x16, .f32⟩ : BufTy).Contents (Elt F) → (⟨S1000x16, .f32⟩ : BufTy).Contents (Elt F)),
    StableHlo.unary main_arg1 main_v2 ((extractStridedSlice S24000x16 ![200000, 0] · slices_S224000x16_S24000x16_200000_0) : (⟨S224000x16, .f32⟩ : BufTy).Contents (Elt F) → (⟨S24000x16, .f32⟩ : BufTy).Contents (Elt F)),
    StableHlo.unary main_arg2 main_v3 ((extractStridedSlice S1000x1 ![0, 0] · slices_S100000x1_S1000x1_0_0) : (⟨S100000x1, .f32⟩ : BufTy).Contents (Elt F) → (⟨S1000x1, .f32⟩ : BufTy).Contents (Elt F)),
    StableHlo.nullary main_c (constantI S_ 32 0#32),
    StableHlo.TRef.unary (StableHlo.TRef.of (T := ⟨S_, .i32⟩) main_c) (StableHlo.TRef.of (T := ⟨S_, .f32⟩) main_call0_v0) (sitofp .f32),
    StableHlo.TRef.binary (StableHlo.TRef.of (T := ⟨S1000x1, .f32⟩) main_v3) (StableHlo.TRef.of (T := ⟨S_, .f32⟩) main_call0_v0) (StableHlo.TRef.of (T := ⟨S1000x16, .f32⟩) main_v4) (fun x v => pad S1000x16 ![0, 0] ![0, 15] ![0, 0] x v pads_S1000x1_S1000x16_000_0150 h_S_),
    StableHlo.unary main_arg3 main_v5 ((extractStridedSlice S1000x1 ![0, 0] · slices_S100000x1_S1000x1_0_0) : (⟨S100000x1, .f32⟩ : BufTy).Contents (Elt F) → (⟨S1000x1, .f32⟩ : BufTy).Contents (Elt F)),
    StableHlo.nullary main_c_0 (constantI S_ 32 0#32),
    StableHlo.TRef.unary (StableHlo.TRef.of (T := ⟨S_, .i32⟩) main_c_0) (StableHlo.TRef.of (T := ⟨S_, .f32⟩) main_call1_v0) (sitofp .f32),
    StableHlo.TRef.binary (StableHlo.TRef.of (T := ⟨S1000x1, .f32⟩) main_v5) (StableHlo.TRef.of (T := ⟨S_, .f32⟩) main_call1_v0) (StableHlo.TRef.of (T := ⟨S1000x16, .f32⟩) main_v6) (fun x v => pad S1000x16 ![0, 0] ![0, 15] ![0, 0] x v pads_S1000x1_S1000x16_000_0150 h_S_),
    StableHlo.nary ![main_v0, main_v1, main_v2, main_v4, main_v6] main_v7 (fun u => (concatenate S28000x16 0 [⟨S1000x16, (u 0 : (⟨S1000x16, .f32⟩ : BufTy).Contents (Elt F))⟩, ⟨S1000x16, (u 1 : (⟨S1000x16, .f32⟩ : BufTy).Contents (Elt F))⟩, ⟨S24000x16, (u 2 : (⟨S24000x16, .f32⟩ : BufTy).Contents (Elt F))⟩, ⟨S1000x16, (u 3 : (⟨S1000x16, .f32⟩ : BufTy).Contents (Elt F))⟩, ⟨S1000x16, (u 4 : (⟨S1000x16, .f32⟩ : BufTy).Contents (Elt F))⟩] concatenates_S1000x16_S1000x16_S24000x16_S1000x16_S1000x16_S28000x16_d0 : (⟨S28000x16, .f32⟩ : BufTy).Contents (Elt F))),
    StableHlo.nullary main_v8 (iotaInDim S26 32 0),
    StableHlo.nullary main_c_1 (constantI S_ 32 1000#32),
    StableHlo.unary main_c_1 main_v9 (broadcastInDim S26 ![] bcast_S_S26 : (⟨S_, .i32⟩ : BufTy).Contents (Elt F) → (⟨S26, .i32⟩ : BufTy).Contents (Elt F)),
    StableHlo.binary main_v8 main_v9 main_v10 (muli : (⟨S26, .i32⟩ : BufTy).Contents (Elt F) → (⟨S26, .i32⟩ : BufTy).Contents (Elt F) → (⟨S26, .i32⟩ : BufTy).Contents (Elt F)),
    StableHlo.unary main_v10 main_v11 (broadcastInDim S1x26 ![1] bcast_S26_S1x26_1 : (⟨S26, .i32⟩ : BufTy).Contents (Elt F) → (⟨S1x26, .i32⟩ : BufTy).Contents (Elt F)),
    StableHlo.unary main_v11 main_v12 (broadcastInDim S16384x26 ![0, 1] bcast_S1x26_S16384x26_0_1 : (⟨S1x26, .i32⟩ : BufTy).Contents (Elt F) → (⟨S16384x26, .i32⟩ : BufTy).Contents (Elt F)),
    StableHlo.binary main_arg0 main_v12 main_v13 (addi : (⟨S16384x26, .i32⟩ : BufTy).Contents (Elt F) → (⟨S16384x26, .i32⟩ : BufTy).Contents (Elt F) → (⟨S16384x26, .i32⟩ : BufTy).Contents (Elt F)),
    StableHlo.unary main_arg0 main_v14 ((extractStridedSlice S16384x1 ![0, 0] · slices_S16384x26_S16384x1_0_0) : (⟨S16384x26, .i32⟩ : BufTy).Contents (Elt F) → (⟨S16384x1, .i32⟩ : BufTy).Contents (Elt F)),
    StableHlo.reshape main_v14 main_v15 (rfl : (.i32 : EltTy) = .i32) shapeCasts_S16384x1_S16384,
    StableHlo.nullary main_c_2 (constantI S_ 32 26000#32),
    StableHlo.unary main_c_2 main_v16 (broadcastInDim S16384 ![] bcast_S_S16384 : (⟨S_, .i32⟩ : BufTy).Contents (Elt F) → (⟨S16384, .i32⟩ : BufTy).Contents (Elt F)),
    StableHlo.binary main_v16 main_v15 main_v17 (addi : (⟨S16384, .i32⟩ : BufTy).Contents (Elt F) → (⟨S16384, .i32⟩ : BufTy).Contents (Elt F) → (⟨S16384, .i32⟩ : BufTy).Contents (Elt F)),
    StableHlo.unary main_arg0 main_v18 ((extractStridedSlice S16384x1 ![0, 1] · slices_S16384x26_S16384x1_0_1) : (⟨S16384x26, .i32⟩ : BufTy).Contents (Elt F) → (⟨S16384x1, .i32⟩ : BufTy).Contents (Elt F)),
    StableHlo.reshape main_v18 main_v19 (rfl : (.i32 : EltTy) = .i32) shapeCasts_S16384x1_S16384,
    StableHlo.nullary main_c_3 (constantI S_ 32 27000#32),
    StableHlo.unary main_c_3 main_v20 (broadcastInDim S16384 ![] bcast_S_S16384 : (⟨S_, .i32⟩ : BufTy).Contents (Elt F) → (⟨S16384, .i32⟩ : BufTy).Contents (Elt F)),
    StableHlo.binary main_v20 main_v19 main_v21 (addi : (⟨S16384, .i32⟩ : BufTy).Contents (Elt F) → (⟨S16384, .i32⟩ : BufTy).Contents (Elt F) → (⟨S16384, .i32⟩ : BufTy).Contents (Elt F)),
    StableHlo.unary main_v17 main_v22 (broadcastInDim S16384x1 ![0] bcast_S16384_S16384x1_0 : (⟨S16384, .i32⟩ : BufTy).Contents (Elt F) → (⟨S16384x1, .i32⟩ : BufTy).Contents (Elt F)),
    StableHlo.unary main_v21 main_v23 (broadcastInDim S16384x1 ![0] bcast_S16384_S16384x1_0 : (⟨S16384, .i32⟩ : BufTy).Contents (Elt F) → (⟨S16384x1, .i32⟩ : BufTy).Contents (Elt F)),
    StableHlo.nary ![main_v13, main_v22, main_v23] main_v24 (fun u => (concatenate S16384x28 1 [⟨S16384x26, (u 0 : (⟨S16384x26, .i32⟩ : BufTy).Contents (Elt F))⟩, ⟨S16384x1, (u 1 : (⟨S16384x1, .i32⟩ : BufTy).Contents (Elt F))⟩, ⟨S16384x1, (u 2 : (⟨S16384x1, .i32⟩ : BufTy).Contents (Elt F))⟩] concatenates_S16384x26_S16384x1_S16384x1_S16384x28_d1 : (⟨S16384x28, .i32⟩ : BufTy).Contents (Elt F))),
    StableHlo.reshape main_v24 main_v25 (rfl : (.i32 : EltTy) = .i32) shapeCasts_S16384x28_S458752 ]

/-- The operations between the gather and the TensorCore kernel: that kernel's operands. -/
abbrev ops2 : List (HloOp τ sig (Elt F)) :=
  [ StableHlo.reshape main_v26 main_v27 (rfl : (.f32 : EltTy) = .f32) shapeCasts_S458752x16_S16384x448,
    StableHlo.binary main_arg5 main_cst main_v28 ((fun a b => concatenate S416x80 1 [⟨S416x64, a⟩, ⟨S416x16, b⟩] concatenates_S416x64_S416x16_S416x80_d1) : (⟨S416x64, .f32⟩ : BufTy).Contents (Elt F) → (⟨S416x16, .f32⟩ : BufTy).Contents (Elt F) → (⟨S416x80, .f32⟩ : BufTy).Contents (Elt F)),
    StableHlo.binary main_arg10 main_arg4 main_v29 (addf : (⟨S1, .f32⟩ : BufTy).Contents (Elt F) → (⟨S1, .f32⟩ : BufTy).Contents (Elt F) → (⟨S1, .f32⟩ : BufTy).Contents (Elt F)),
    StableHlo.reshape main_v29 main_v30 (rfl : (.f32 : EltTy) = .f32) shapeCasts_S1_S1x1,
    StableHlo.reshape main_arg6 main_v31 (rfl : (.f32 : EltTy) = .f32) shapeCasts_S64_S1x64,
    StableHlo.reshape main_arg8 main_v32 (rfl : (.f32 : EltTy) = .f32) shapeCasts_S32_S1x32 ]

set_option maxRecDepth 8192 in
set_option maxHeartbeats 4000000 in
/-- @main: the first line, the gather, the second line, the TensorCore kernel. -/
theorem main_eq (d : Dev nD) : main (F := F) d = (StableHlo.seq ops1 >>= fun _ => sc.run d 0 >>= fun _ => StableHlo.seq ops2 >>= fun _ =>
    SparseCore.liftProg (.op (.customCall (Pipeline.entry 0) ()) fun _ => .ret ⟨⟩)) := rfl

set_option maxRecDepth 8192 in
theorem ops1_sub : (ops1 : List (HloOp τ sig (Elt F))).Forall fun op => op.bufs ⊆ StableHlo.tcRefs τ sig :=
  ⟨StableHlo.nullary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.unary_bufs_sub .., StableHlo.unary_bufs_sub .., StableHlo.nary_bufs_sub .., StableHlo.reshape_bufs_sub ..⟩
theorem ops2_sub : (ops2 : List (HloOp τ sig (Elt F))).Forall fun op => op.bufs ⊆ StableHlo.tcRefs τ sig :=
  ⟨StableHlo.reshape_bufs_sub .., StableHlo.binary_bufs_sub .., StableHlo.binary_bufs_sub .., StableHlo.reshape_bufs_sub .., StableHlo.reshape_bufs_sub .., StableHlo.reshape_bufs_sub ..⟩
theorem bufs1 : ∀ op ∈ (ops1 (F := F)), op.bufs ⊆ Pipeline.ucRefs τ sig := fun op h => Pipeline.sub_ucRefs op (List.forall_iff_forall_mem.1 ops1_sub op h)
theorem bufs2 : ∀ op ∈ (ops2 (F := F)), op.bufs ⊆ Pipeline.ucRefs τ sig := fun op h => Pipeline.sub_ucRefs op (List.forall_iff_forall_mem.1 ops2_sub op h)
theorem fresh1 : ∀ op ∈ (ops1 (F := F)), op.fresh = ∅ := by
  intro _ h; (repeat (cases h with | head => rfl | tail _ h => ?_)); exact nomatch h
theorem fresh2 : ∀ op ∈ (ops2 (F := F)), op.fresh = ∅ := by
  intro _ h; (repeat (cases h with | head => rfl | tail _ h => ?_)); exact nomatch h

/-! ## The buffers along the run -/

section Run
variable (m : (ℓ : Loc nD τ sig) → Buf (Elt F) ℓ) (ρ : Dev nD → PrngReg)

abbrev dv (b : Ref sig .tc) : DevRef τ sig := Proc.devRef .tc b

/-- At launch; after the first line of operations. -/
abbrev V0 (d : Dev nD) : Valuation τ sig (Elt F) := fun b => m (d, b)
def V1 (d : Dev nD) : Valuation τ sig (Elt F) := StableHlo.after ops1 (V0 m d)

/-- The gather's table, its index array, and its result's contents when it begins. -/
abbrev tb (d : Dev nD) : Buf (Elt F) (tLoc d) := V1 m d (dv main_v7)
abbrev ix (d : Dev nD) : Buf (Elt F) (iLoc d) := V1 m d (dv main_v25)
abbrev o0 (d : Dev nD) : Buf (Elt F) (oLoc d) := V1 m d (dv main_v26)

/-- After the gather; after the second line; after the TensorCore kernel. -/
def V2 (d : Dev nD) : Valuation τ sig (Elt F) := Function.update (V1 m d) (dv main_v26) (oG (tb m) (ix m) d)
def V3 (d : Dev nD) : Valuation τ sig (Elt F) := StableHlo.after ops2 (V2 m d)

/-- The level up to which the TensorCore's waits have been recorded once the gather is over. -/
abbrev bnd : ℕ := 8 * SparseCore.Cfg.Blocks.fst (Q := 1) (N := 1) 1
abbrev V4 (d : Dev nD) : Valuation τ sig (Elt F) := Wx (V3 m) bnd d

/-! ## The ghost state at launch -/

abbrev EP : Emb UPipe (MT nD τ sig (HIx 1) (Elt F) ℕ UU ℕ) := (Emb.inl : Emb UPipe (UPipe × Counters)).trans embR

instance EP_landsIn : (EP (F := F)).LandsIn (upEmb : UEmb _ 𝕄) := by unfold EP; infer_instance

theorem cells_inj : Function.Injective (Pipeline.cellOf (nD := nD) (τ := τ) (Pipeline.pin (pcfgs (F := F)) adm)) := cellOf_inj

def u₀ : UU := (initOf (K (F := F)).hsCells (K (F := F)).hsToks,
  (initOf (Pipeline.cells (Pipeline.pin (pcfgs (F := F)) adm) cells_inj) (Pipeline.launchToks (Pipeline.pin (pcfgs (F := F)) adm) cells_inj), 1))

/-- What the launch deals device `d`'s TensorCore for the pipeline's cells. -/
abbrev G (d : Dev nD) : sProp 𝕄 :=
  iprop(Pipeline.cellsGhost (Pipeline.pin (pcfgs (F := F)) adm) EP 0 d ∗ Pipeline.toksInit (Pipeline.pin (pcfgs (F := F)) adm) EP 0 d)

theorem emps : (BI.emp : sProp 𝕄) ⊢ bigSep Finset.univ fun thr : Thread nD τ => bigSep Finset.univ fun q : Fin 1 => (P (tb m) (ix m) (o0 m)).x q thr := by
  rw [show (bigSep Finset.univ fun thr : Thread nD τ => bigSep Finset.univ fun q : Fin 1 => (P (tb m) (ix m) (o0 m)).x q thr) = bigSep Finset.univ fun _ => iprop(emp) from
    bigSep_congr fun _ _ => bigSep_univ_of_subsingleton (0 : Fin 1)]
  exact Entails.of_eq (BI.bigSep_emp_const _).symm

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P (tb m) (ix m) (o0 m)).x q thr) := by
  unfold u₀
  iintro Hu
  ihave H := (ownU_pair _ _) $$ Hu
  icases H with ⟨HH, HR⟩
  ihave H := (own_pair_emb _ _ _) $$ HR
  icases H with ⟨HP, -⟩
  imod (Pipeline.fund_ghost (Pipeline.pin (pcfgs (F := F)) adm) EP cells_inj) $$ HP with ⟨Hg, Ht⟩
  imodintro
  isplitl [HH]; · iexact HH
  isplitl [Hg Ht]
  · rw [bigSep_sep']
    isplitl [Hg]
    · rw [show (bigSep Finset.univ fun c : Dev nD => Pipeline.cellsGhost (Pipeline.pin (pcfgs (F := F)) adm) EP 0 c)
        = bigSep Finset.univ fun c : Dev nD => bigSep Finset.univ fun p => Pipeline.cellsGhost (Pipeline.pin (pcfgs (F := F)) adm) EP p c from
        bigSep_congr fun c _ => (bigSep_univ_of_subsingleton (Φ := fun p => Pipeline.cellsGhost (Pipeline.pin (pcfgs (F := F)) adm) EP p c) (0 : Fin 1)).symm]
      iexact Hg
    · rw [show (bigSep Finset.univ fun c : Dev nD => Pipeline.toksInit (Pipeline.pin (pcfgs (F := F)) adm) EP 0 c)
        = bigSep Finset.univ fun c : Dev nD => bigSep Finset.univ fun p => Pipeline.toksInit (Pipeline.pin (pcfgs (F := F)) adm) EP p c from
        bigSep_congr fun c _ => (bigSep_univ_of_subsingleton (Φ := fun p => Pipeline.toksInit (Pipeline.pin (pcfgs (F := F)) adm) EP p c) (0 : Fin 1)).symm]
      iexact Ht
  iapply (emps m); iempintro

/-! ## The gather's three buffers among the others -/

def three : Finset (DevRef τ sig) := {dv main_v7, dv main_v25, dv main_v26}
theorem three_sub : three ⊆ Pipeline.ucRefs τ sig := by
  intro b hb
  simp only [three, Finset.mem_insert, Finset.mem_singleton] at hb
  rcases hb with rfl | rfl | rfl <;> exact Pipeline.devRef_mem_ucRefs rfl

theorem held_three (d : Dev nD) (W : Valuation τ sig (Elt F)) :
    (StableHlo.held (d : Thread nD τ) three W : sProp 𝕄)
      = iprop((tLoc d ↦{fullShare} W (dv main_v7)) ∗ (iLoc d ↦{fullShare} W (dv main_v25)) ∗ oLoc d ↦{fullShare} W (dv main_v26)) := by
  unfold StableHlo.held three
  rw [SparseCore.bigSep_insert' (by decide), SparseCore.bigSep_insert' (by decide), bigSep_singleton]

theorem held_V1 (d : Dev nD) : (StableHlo.held (d : Thread nD τ) (Pipeline.ucRefs τ sig) (V1 m d) : sProp 𝕄)
    = iprop(((tLoc d ↦{fullShare} tb m d) ∗ (iLoc d ↦{fullShare} ix m d) ∗ oLoc d ↦{fullShare} o0 m d)
        ∗ StableHlo.held (d : Thread nD τ) (Pipeline.ucRefs τ sig \ three) (V1 m d)) := by
  rw [StableHlo.held_sub_split _ three_sub, held_three]

theorem held_V2 (d : Dev nD) : (StableHlo.held (d : Thread nD τ) (Pipeline.ucRefs τ sig) (V2 m d) : sProp 𝕄)
    = iprop(((tLoc d ↦{fullShare} tb m d) ∗ (iLoc d ↦{fullShare} ix m d) ∗ oLoc d ↦{fullShare} oG (tb m) (ix m) d)
        ∗ StableHlo.held (d : Thread nD τ) (Pipeline.ucRefs τ sig \ three) (V1 m d)) := by
  rw [StableHlo.held_sub_split _ three_sub, held_three]
  unfold V2
  rw [Function.update_of_ne (show dv main_v7 ≠ dv main_v26 by decide), Function.update_of_ne (show dv main_v25 ≠ dv main_v26 by decide), Function.update_self,
    StableHlo.held_congr (d : Thread nD τ) (S := Pipeline.ucRefs τ sig \ three) (V := Function.update (V1 m d) (dv main_v26) (oG (tb m) (ix m) d)) (V' := V1 m d)
      fun b hb => Function.update_of_ne (fun e => (Finset.mem_sdiff.mp hb).2 (by rw [e]; simp [three])) _ _]

/-! ## @main on the TensorCore -/

abbrev FIN (d : Dev nD) : sProp 𝕄 := unscopedBufs d fun b => V4 m d (dv b)

/-- After its one call the core owes nothing; the rest of its state is as it was, whatever its waits have recorded up to that level. -/
theorem tcSt_one (d : Dev nD) : ((K (F := F)).tcSt EH d 1 : sProp 𝕄) ⊢ iprop(owesB bnd d ∗ (owesB bnd d -∗ (K (F := F)).tcSt EH d 1)) := by
  unfold SparseCore.Cfg.tcSt
  rw [(K (F := F)).Otc_end d (le_refl 1)]
  iintro ⟨HO, HR⟩
  isplitl [HO]; · iexact HO
  iintro HO
  isplitl [HO]; · iexact HO
  iexact HR

set_option backward.isDefEq.respectTransparency.types false in
theorem hmain (κ : GSem nD τ sig → ℕ) (d : Dev nD) :
    iprop((K (F := F)).ctx EH (P (tb m) (ix m) (o0 m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = StableHlo.held (d : Thread nD τ) (Pipeline.ucRefs τ sig) (V0 m d) from
    Pipeline.unscopedBufs_held d (V0 m d)]
  iintro ⟨#Hctx, Hst, ⟨Hb, Hbufs, Hts, -⟩, HG⟩
  iapply (StableHlo.wp_seq 𝒱 none Set.univ d (Pipeline.ucRefs τ sig) _ ops1 bufs1 fresh1 (V0 m d)) $$ [Hb Hbufs]
  · isplitl [Hb]; · iexact Hb
    iexact Hbufs
  iintro ⟨Hb, Hbufs⟩
  ihave Hbufs := (Entails.of_eq (show (StableHlo.held (d : Thread nD τ) (Pipeline.ucRefs τ sig) (StableHlo.after ops1 (V0 m d)) : sProp 𝕄) = _ from held_V1 m d)) $$ Hbufs
  icases Hbufs with ⟨H3, Hrest⟩
  rw [wp_bind]
  iapply ((K (F := F)).wp_run (D (F := F)) 𝒱 (EH := EH) (P := P (tb m) (ix m) (o0 m)) κ d 0) $$ [Hst H3 Hrest Hb Hts HG]
  isplitr; · iexact Hctx
  isplitl [Hst]; · iexact Hst
  isplitl [H3]
  · rw [st_deal]; iexact H3
  iintro ⟨Hst, Hdn⟩
  ihave H3 := (Entails.of_eq (dn_deal (tb m) (ix m) (o0 m) d)) $$ Hdn
  ihave Hbufs := (Entails.of_eq (held_V2 m d).symm) $$ [H3 Hrest]
  · isplitl [H3]; · iexact H3
    iexact Hrest
  iapply (StableHlo.wp_seq 𝒱 none Set.univ d (Pipeline.ucRefs τ sig) _ ops2 bufs2 fresh2 (V2 m d)) $$ [Hb Hbufs]
  · isplitl [Hb]; · iexact Hb
    iexact Hbufs
  iintro ⟨Hb, Hbufs⟩
  ihave Hst := (show ((K (F := F)).tcSt EH d (((0 : Fin 1) : ℕ) + 1) : sProp 𝕄) ⊢ iprop(owesB bnd d ∗ (owesB bnd d -∗ (K (F := F)).tcSt EH d 1)) from tcSt_one d) $$ Hst
  icases Hst with ⟨HO, HR⟩
  iapply ((K (F := F)).wp_liftProg (D (F := F)) 𝒱 (d : Thread nD τ) Set.univ none _ _)
  icases HG with ⟨Hg, Ht⟩
  ihave Hla := ((K (F := F)).ctx_levAts (EH := EH) (P := P (tb m) (ix m) (o0 m)) κ) $$ Hctx
  iapply (Pipeline.RegionSeg.wp pcfgs adm (pdats (V3 m) bnd) none cells_inj EP defs₀ 𝒱₀ (K (F := F)).L (K (F := F)).lev (reg (V3 m) bnd) d none
    (fun _ h => nomatch h) (fun _ => pure ⟨⟩) _)
  isplitl [Hts HR]
  · iintro ⟨Hb, Hpost⟩
    ihave Hpost := (Entails.of_eq (show (reg (V3 m) bnd).post d = iprop(unscopedBufs d (fun b => V4 m d (dv b)) ∗ owesB bnd d) from rfl)) $$ Hpost
    icases Hpost with ⟨Hbufs, HO⟩
    rw [wp_pure]; imodintro
    isplitl [HO HR]; · iapply HR; iexact HO
    isplitl [Hbufs]; · iexact Hbufs
    isplitl [Hb]; · iexact Hb
    iexact Hts
  isplitl [Hb]; · iexact Hb
  isplitl [Hbufs HO]
  · rw [show (reg (V3 m) bnd).pre d = iprop(unscopedBufs d (fun b => V3 m d (dv b)) ∗ owesB bnd d) from rfl, Pipeline.unscopedBufs_held d (V3 m d)]
    isplitl [Hbufs]; · iexact Hbufs
    iexact HO
  isplitl [Hla]; · iexact Hla
  isplitl [Hg]; · iexact Hg
  iexact Ht

/-! ## The program's run -/

/-- Every unscoped buffer of device `d`'s TensorCore at `V4`. -/
def fq (d : Dev nD) (s' : Phys nD τ sig (Elt F)) : Prop := ∀ b ∈ Pipeline.ucRefs τ sig, s'.mem.mem (d, b) = V4 m d b

theorem hfin (d : Dev nD) (s' : Phys nD τ sig (Elt F)) : iprop(FIN m d ∗ SI s') ⊢ (⌜fq m d s'⌝ : sProp 𝕄) := by
  unfold FIN
  rw [Pipeline.unscopedBufs_held d (V4 m d)]
  unfold StableHlo.held
  iintro ⟨H, HSI⟩
  ihave %h := (SI_pointsTo_bufs_agree (qs := fun _ => fullShare) (Pipeline.ucRefs τ sig)) $$ [HSI H]
  · isplitl [HSI]; · iexact HSI
    iexact H
  ipureintro
  exact fun b hb => h b hb

def QC : PUnit × MemSt nD τ sig (Elt F) → Prop := fun r => (∀ (c : Dev nD), ∀ b ∈ Pipeline.ucRefs τ sig, r.2.mem (c, b) = V4 m c b) ∧ r.2.sem = fun _ => 0

/-- From any memory whose index array names rows of the table, every weakly fair execution terminates with every unscoped
    TensorCore buffer at `V4` and every semaphore at zero. -/
theorem run_main [∀ e, Nonempty (Elt F e)] (hpre : InRows (ix m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (tb m) (ix m) (o0 m)) (A := ∅) launchFacts v₀
    (fun q hq => match q with | 0 => nomatch hq)
    (fun q _ => match q with | 0 => tileObl (tb m) (ix m) (o0 m) launchFacts hpre)
    (fun q _ => match q with | 0 => SparseCore.Cfg.VecSplit.of_plain (vecSplit (tb m) (ix m) (o0 m)))
    m ρ main G (FIN m) (u₀ (F := F)) (sep_elim_left.trans (hu₀ m)) (hmain m ρ) (fq m) (hfin m) (QC m) (fun _ h hz => ⟨h, hz⟩)

end Run
end Cert.Proof.OnKernelIdeal

end
-- ==== Proof.IReads.lean ====
/-
  What the TensorCore's buffers hold along the run: the arguments are never written; the gather's table (`tableOf`) and
  index array (`indexOf`) and the TensorCore kernel's operands are named functions of the arguments and of the gathered rows.
-/
module

public import proofs.«01_k».proof.Proof.IMain
public import Idealize.ShloMosaic.Lib.StableHlo
public import Idealize.ShloMosaic.Lib.Pointwise

@[expose] public section

noncomputable section

namespace Cert.Proof.OnKernelIdeal

open Cert.KernelIdeal Cert.KernelIdeal.Gen
open Idealize.ShloMosaic Idealize.ShloMosaic.TcCoe
open Idealize.ShloMosaic.StableHlo
open Idealize.SL.Sem

variable {F : FTy → Type} [FloatOps F]

/-! ## The first line's results as functions of the arguments -/

/-- A bias table's first thousand entries, as the first column of sixteen, the others zero. -/
def biasRows (b : FVec F S100000x1 .f32) : FVec F S1000x16 .f32 :=
  pad S1000x16 ![0, 0] ![0, 15] ![0, 0] (extractStridedSlice S1000x1 ![0, 0] b slices_S100000x1_S1000x1_0_0) (sitofp .f32 (constantI S_ 32 0#32))
    pads_S1000x1_S1000x16_000_0150 h_S_

/-- The compact table: the reachable thousand rows of each field, then the two bias tables'. -/
def tableOf (e : FVec F S224000x16 .f32) (ub ib : FVec F S100000x1 .f32) : FVec F S28000x16 .f32 :=
  concatenate S28000x16 0 [⟨S1000x16, extractStridedSlice S1000x16 ![0, 0] e slices_S224000x16_S1000x16_0_0⟩,
    ⟨S1000x16, extractStridedSlice S1000x16 ![100000, 0] e slices_S224000x16_S1000x16_100000_0⟩,
    ⟨S24000x16, extractStridedSlice S24000x16 ![200000, 0] e slices_S224000x16_S24000x16_200000_0⟩,
    ⟨S1000x16, biasRows ub⟩, ⟨S1000x16, biasRows ib⟩] concatenates_S1000x16_S1000x16_S24000x16_S1000x16_S1000x16_S28000x16_d0

/-- The index array: per example its twenty-six fields' rows, then its two bias rows. -/
def indexOf (x : IVec S16384x26 32) : IVec S458752 32 :=
  shapeCast S458752 (concatenate S16384x28 1 [
    ⟨S16384x26, addi x (broadcastInDim S16384x26 ![0, 1] bcast_S1x26_S16384x26_0_1 (broadcastInDim S1x26 ![1] bcast_S26_S1x26_1
      (muli (iotaInDim S26 32 0) (broadcastInDim S26 ![] bcast_S_S26 (constantI S_ 32 1000#32)))))⟩,
    ⟨S16384x1, broadcastInDim S16384x1 ![0] bcast_S16384_S16384x1_0 (addi (broadcastInDim S16384 ![] bcast_S_S16384 (constantI S_ 32 26000#32))
      (shapeCast S16384 (extractStridedSlice S16384x1 ![0, 0] x slices_S16384x26_S16384x1_0_0) shapeCasts_S16384x1_S16384))⟩,
    ⟨S16384x1, broadcastInDim S16384x1 ![0] bcast_S16384_S16384x1_0 (addi (broadcastInDim S16384 ![] bcast_S_S16384 (constantI S_ 32 27000#32))
      (shapeCast S16384 (extractStridedSlice S16384x1 ![0, 1] x slices_S16384x26_S16384x1_0_1) shapeCasts_S16384x1_S16384))⟩]
    concatenates_S16384x26_S16384x1_S16384x1_S16384x28_d1) shapeCasts_S16384x28_S458752

section Reads
variable (m : (ℓ : Loc nD τ sig) → Buf (Elt F) ℓ) (d : Dev nD)

set_option maxRecDepth 16384
set_option maxHeartbeats 4000000

theorem V1_v25 : V1 m d (dv main_v25) = indexOf (m (d, dv main_arg0)) := by
  unfold V1; simp only [ops1, TRef.binary, TRef.nullary, TRef.ternary, TRef.unary, TRef.toBuf, TRef.ofBuf, cast_eq]
  after_results_simp <;> (unfold indexOf; rfl)

theorem V1_v7 : V1 m d (dv main_v7) = tableOf (m (d, dv main_arg1)) (m (d, dv main_arg2)) (m (d, dv main_arg3)) := by
  unfold V1; simp only [ops1, TRef.binary, TRef.nullary, TRef.ternary, TRef.unary, TRef.toBuf, TRef.ofBuf, cast_eq]
  after_results_simp <;> (unfold tableOf biasRows; rfl)

theorem V1_cst : V1 m d (dv main_cst) = fun i => FloatOps.ofBits .f32 (lit0 (S416x16.rowMajor i)) := by
  unfold V1; simp only [ops1, TRef.binary, TRef.nullary, TRef.ternary, TRef.unary, TRef.toBuf, TRef.ofBuf, cast_eq]
  after_results_simp <;> rfl

theorem V1_arg0 : V1 m d (dv main_arg0) = m (d, dv main_arg0) := by
  unfold V1; simp only [ops1, TRef.binary, TRef.nullary, TRef.ternary, TRef.unary, TRef.toBuf, TRef.ofBuf, cast_eq]
  after_results_simp <;> rfl
theorem V1_arg1 : V1 m d (dv main_arg1) = m (d, dv main_arg1) := by
  unfold V1; simp only [ops1, TRef.binary, TRef.nullary, TRef.ternary, TRef.unary, TRef.toBuf, TRef.ofBuf, cast_eq]
  after_results_simp <;> rfl
theorem V1_arg2 : V1 m d (dv main_arg2) = m (d, dv main_arg2) := by
  unfold V1; simp only [ops1, TRef.binary, TRef.nullary, TRef.ternary, TRef.unary, TRef.toBuf, TRef.ofBuf, cast_eq]
  after_results_simp <;> rfl
theorem V1_arg3 : V1 m d (dv main_arg3) = m (d, dv main_arg3) := by
  unfold V1; simp only [ops1, TRef.binary, TRef.nullary, TRef.ternary, TRef.unary, TRef.toBuf, TRef.ofBuf, cast_eq]
  after_results_simp <;> rfl
theorem V1_arg4 : V1 m d (dv main_arg4) = m (d, dv main_arg4) := by
  unfold V1; simp only [ops1, TRef.binary, TRef.nullary, TRef.ternary, TRef.unary, TRef.toBuf, TRef.ofBuf, cast_eq]
  after_results_simp <;> rfl
theorem V1_arg5 : V1 m d (dv main_arg5) = m (d, dv main_arg5) := by
  unfold V1; simp only [ops1, TRef.binary, TRef.nullary, TRef.ternary, TRef.unary, TRef.toBuf, TRef.ofBuf, cast_eq]
  after_results_simp <;> rfl
theorem V1_arg6 : V1 m d (dv main_arg6) = m (d, dv main_arg6) := by
  unfold V1; simp only [ops1, TRef.binary, TRef.nullary, TRef.ternary, TRef.unary, TRef.toBuf, TRef.ofBuf, cast_eq]
  after_results_simp <;> rfl
theorem V1_arg7 : V1 m d (dv main_arg7) = m (d, dv main_arg7) := by
  unfold V1; simp only [ops1, TRef.binary, TRef.nullary, TRef.ternary, TRef.unary, TRef.toBuf, TRef.ofBuf, cast_eq]
  after_results_simp <;> rfl
theorem V1_arg8 : V1 m d (dv main_arg8) = m (d, dv main_arg8) := by
  unfold V1; simp only [ops1, TRef.binary, TRef.nullary, TRef.ternary, TRef.unary, TRef.toBuf, TRef.ofBuf, cast_eq]
  after_results_simp <;> rfl
theorem V1_arg9 : V1 m d (dv main_arg9) = m (d, dv main_arg9) := by
  unfold V1; simp only [ops1, TRef.binary, TRef.nullary, TRef.ternary, TRef.unary, TRef.toBuf, TRef.ofBuf, cast_eq]
  after_results_simp <;> rfl
theorem V1_arg10 : V1 m d (dv main_arg10) = m (d, dv main_arg10) := by
  unfold V1; simp only [ops1, TRef.binary, TRef.nullary, TRef.ternary, TRef.unary, TRef.toBuf, TRef.ofBuf, cast_eq]
  after_results_simp <;> rfl

/-- The gather writes its own result only. -/
theorem V2_keeps (b : Ref sig .tc) (h : b ≠ main_v26) : V2 m d (dv b) = V1 m d (dv b) :=
  Function.update_of_ne (fun e => h (Proc.devRef_injective _ e)) _ _
theorem V2_v26 : V2 m d (dv main_v26) = gathered (tb m d) (ix m d) := by
  unfold V2; rw [Function.update_self]

theorem V3_arg0 : V3 m d (dv main_arg0) = m (d, dv main_arg0) := by
  have e : V3 m d (dv main_arg0) = V2 m d (dv main_arg0) := by
    unfold V3; simp only [ops2]
    after_results_simp <;> rfl
  rw [e, V2_keeps m d main_arg0 (by decide), V1_arg0]
theorem V3_arg1 : V3 m d (dv main_arg1) = m (d, dv main_arg1) := by
  have e : V3 m d (dv main_arg1) = V2 m d (dv main_arg1) := by
    unfold V3; simp only [ops2]
    after_results_simp <;> rfl
  rw [e, V2_keeps m d main_arg1 (by decide), V1_arg1]
theorem V3_arg2 : V3 m d (dv main_arg2) = m (d, dv main_arg2) := by
  have e : V3 m d (dv main_arg2) = V2 m d (dv main_arg2) := by
    unfold V3; simp only [ops2]
    after_results_simp <;> rfl
  rw [e, V2_keeps m d main_arg2 (by decide), V1_arg2]
theorem V3_arg3 : V3 m d (dv main_arg3) = m (d, dv main_arg3) := by
  have e : V3 m d (dv main_arg3) = V2 m d (dv main_arg3) := by
    unfold V3; simp only [ops2]
    after_results_simp <;> rfl
  rw [e, V2_keeps m d main_arg3 (by decide), V1_arg3]
theorem V3_arg4 : V3 m d (dv main_arg4) = m (d, dv main_arg4) := by
  have e : V3 m d (dv main_arg4) = V2 m d (dv main_arg4) := by
    unfold V3; simp only [ops2]
    after_results_simp <;> rfl
  rw [e, V2_keeps m d main_arg4 (by decide), V1_arg4]
theorem V3_arg5 : V3 m d (dv main_arg5) = m (d, dv main_arg5) := by
  have e : V3 m d (dv main_arg5) = V2 m d (dv main_arg5) := by
    unfold V3; simp only [ops2]
    after_results_simp <;> rfl
  rw [e, V2_keeps m d main_arg5 (by decide), V1_arg5]
theorem V3_arg6 : V3 m d (dv main_arg6) = m (d, dv main_arg6) := by
  have e : V3 m d (dv main_arg6) = V2 m d (dv main_arg6) := by
    unfold V3; simp only [ops2]
    after_results_simp <;> rfl
  rw [e, V2_keeps m d main_arg6 (by decide), V1_arg6]
theorem V3_arg7 : V3 m d (dv main_arg7) = m (d, dv main_arg7) := by
  have e : V3 m d (dv main_arg7) = V2 m d (dv main_arg7) := by
    unfold V3; simp only [ops2]
    after_results_simp <;> rfl
  rw [e, V2_keeps m d main_arg7 (by decide), V1_arg7]
theorem V3_arg8 : V3 m d (dv main_arg8) = m (d, dv main_arg8) := by
  have e : V3 m d (dv main_arg8) = V2 m d (dv main_arg8) := by
    unfold V3; simp only [ops2]
    after_results_simp <;> rfl
  rw [e, V2_keeps m d main_arg8 (by decide), V1_arg8]
theorem V3_arg9 : V3 m d (dv main_arg9) = m (d, dv main_arg9) := by
  have e : V3 m d (dv main_arg9) = V2 m d (dv main_arg9) := by
    unfold V3; simp only [ops2]
    after_results_simp <;> rfl
  rw [e, V2_keeps m d main_arg9 (by decide), V1_arg9]
theorem V3_arg10 : V3 m d (dv main_arg10) = m (d, dv main_arg10) := by
  have e : V3 m d (dv main_arg10) = V2 m d (dv main_arg10) := by
    unfold V3; simp only [ops2]
    after_results_simp <;> rfl
  rw [e, V2_keeps m d main_arg10 (by decide), V1_arg10]
theorem V3_v27 : V3 m d (dv main_v27) = shapeCast S16384x448 ((gathered (tb m d) (ix m d) : FVec F S458752x16 .f32)) shapeCasts_S458752x16_S16384x448 := by
  have e : V3 m d (dv main_v27) = shapeCast S16384x448 ((V2 m d (dv main_v26))) shapeCasts_S458752x16_S16384x448 := by
    unfold V3; simp only [ops2]
    after_results_simp <;> rfl
  rw [e, V2_v26 m d]
theorem V3_v28 : V3 m d (dv main_v28) = concatenate S416x80 1 [⟨S416x64, (m (d, dv main_arg5) : FVec F S416x64 .f32)⟩, ⟨S416x16, (fun i => FloatOps.ofBits .f32 (lit0 (S416x16.rowMajor i)) : FVec F S416x16 .f32)⟩] concatenates_S416x64_S416x16_S416x80_d1 := by
  have e : V3 m d (dv main_v28) = concatenate S416x80 1 [⟨S416x64, ((V2 m d (dv main_arg5)) : FVec F S416x64 .f32)⟩, ⟨S416x16, ((V2 m d (dv main_cst)) : FVec F S416x16 .f32)⟩] concatenates_S416x64_S416x16_S416x80_d1 := by
    unfold V3; simp only [ops2]
    after_results_simp <;> rfl
  rw [e, V2_keeps m d main_arg5 (by decide), V1_arg5, V2_keeps m d main_cst (by decide), V1_cst]
theorem V3_v30 : V3 m d (dv main_v30) = shapeCast S1x1 (addf (m (d, dv main_arg10) : FVec F S1 .f32) (m (d, dv main_arg4) : FVec F S1 .f32)) shapeCasts_S1_S1x1 := by
  have e : V3 m d (dv main_v30) = shapeCast S1x1 (addf ((V2 m d (dv main_arg10)) : FVec F S1 .f32) ((V2 m d (dv main_arg4)) : FVec F S1 .f32)) shapeCasts_S1_S1x1 := by
    unfold V3; simp only [ops2]
    after_results_simp <;> rfl
  rw [e, V2_keeps m d main_arg10 (by decide), V1_arg10, V2_keeps m d main_arg4 (by decide), V1_arg4]
theorem V3_v31 : V3 m d (dv main_v31) = shapeCast S1x64 (m (d, dv main_arg6) : FVec F S64 .f32) shapeCasts_S64_S1x64 := by
  have e : V3 m d (dv main_v31) = shapeCast S1x64 ((V2 m d (dv main_arg6)) : FVec F S64 .f32) shapeCasts_S64_S1x64 := by
    unfold V3; simp only [ops2]
    after_results_simp <;> rfl
  rw [e, V2_keeps m d main_arg6 (by decide), V1_arg6]
theorem V3_v32 : V3 m d (dv main_v32) = shapeCast S1x32 (m (d, dv main_arg8) : FVec F S32 .f32) shapeCasts_S32_S1x32 := by
  have e : V3 m d (dv main_v32) = shapeCast S1x32 ((V2 m d (dv main_arg8)) : FVec F S32 .f32) shapeCasts_S32_S1x32 := by
    unfold V3; simp only [ops2]
    after_results_simp <;> rfl
  rw [e, V2_keeps m d main_arg8 (by decide), V1_arg8]
theorem V4_arg0 : V4 m d (dv main_arg0) = m (d, dv main_arg0) := (Wx_keeps (V3 m) bnd d main_arg0 (by decide)).trans (V3_arg0 m d)
theorem V4_arg1 : V4 m d (dv main_arg1) = m (d, dv main_arg1) := (Wx_keeps (V3 m) bnd d main_arg1 (by decide)).trans (V3_arg1 m d)
theorem V4_arg2 : V4 m d (dv main_arg2) = m (d, dv main_arg2) := (Wx_keeps (V3 m) bnd d main_arg2 (by decide)).trans (V3_arg2 m d)
theorem V4_arg3 : V4 m d (dv main_arg3) = m (d, dv main_arg3) := (Wx_keeps (V3 m) bnd d main_arg3 (by decide)).trans (V3_arg3 m d)
theorem V4_arg4 : V4 m d (dv main_arg4) = m (d, dv main_arg4) := (Wx_keeps (V3 m) bnd d main_arg4 (by decide)).trans (V3_arg4 m d)
theorem V4_arg5 : V4 m d (dv main_arg5) = m (d, dv main_arg5) := (Wx_keeps (V3 m) bnd d main_arg5 (by decide)).trans (V3_arg5 m d)
theorem V4_arg6 : V4 m d (dv main_arg6) = m (d, dv main_arg6) := (Wx_keeps (V3 m) bnd d main_arg6 (by decide)).trans (V3_arg6 m d)
theorem V4_arg7 : V4 m d (dv main_arg7) = m (d, dv main_arg7) := (Wx_keeps (V3 m) bnd d main_arg7 (by decide)).trans (V3_arg7 m d)
theorem V4_arg8 : V4 m d (dv main_arg8) = m (d, dv main_arg8) := (Wx_keeps (V3 m) bnd d main_arg8 (by decide)).trans (V3_arg8 m d)
theorem V4_arg9 : V4 m d (dv main_arg9) = m (d, dv main_arg9) := (Wx_keeps (V3 m) bnd d main_arg9 (by decide)).trans (V3_arg9 m d)
theorem V4_arg10 : V4 m d (dv main_arg10) = m (d, dv main_arg10) := (Wx_keeps (V3 m) bnd d main_arg10 (by decide)).trans (V3_arg10 m d)
theorem V4_v33 : V4 m d (dv main_v33) = mlpOut (V3 m) d := Wx_out (V3 m) bnd d

end Reads

/-! ## Every index names a row of the table -/

/-- An example's entry for a field: the field's index, past the fields before it. -/
theorem indexOf_field (x : IVec S16384x26 32) (r : Fin 16384) (c : Fin 26) :
    indexOf x (ix1 ⟨28 * r.val + c.val, by omega⟩) = x (ix2 r c) + BitVec.ofNat 32 c.val * 1000#32 := by
  have hm : (28 * r.val + c.val) % 28 = c.val := by omega
  pointwise [indexOf]
  simp only [hm]
  rw [dif_pos c.isLt]
  rfl

/-- An example's two last entries: its user's row and its item's row. -/
theorem indexOf_user (x : IVec S16384x26 32) (r : Fin 16384) :
    indexOf x (ix1 ⟨28 * r.val + 26, by omega⟩) = 26000#32 + x (ix2 r 0) := by
  have hm : (28 * r.val + 26) % 28 = 26 := by omega
  pointwise [indexOf]
  simp only [hm]
  rw [dif_neg (by decide), dif_pos (by decide)]
  rfl
theorem indexOf_item (x : IVec S16384x26 32) (r : Fin 16384) :
    indexOf x (ix1 ⟨28 * r.val + 27, by omega⟩) = 27000#32 + x (ix2 r 1) := by
  have hm : (28 * r.val + 27) % 28 = 27 := by omega
  pointwise [indexOf]
  simp only [hm]
  rw [dif_neg (by decide), dif_neg (by decide)]
  rfl

section Range
variable {x : IVec S16384x26 32} (hx : ∀ i, (x i).toNat < 1000)
include hx

/-- The entries as natural numbers. -/
theorem indexOf_field_toNat (r : Fin 16384) (c : Fin 26) :
    (indexOf x (ix1 ⟨28 * r.val + c.val, by omega⟩)).toNat = (x (ix2 r c)).toNat + 1000 * c.val := by
  have h := hx (ix2 r c)
  have hc := c.isLt
  rw [indexOf_field, BitVec.toNat_add, BitVec.toNat_mul, BitVec.toNat_ofNat, BitVec.toNat_ofNat]
  omega
theorem indexOf_user_toNat (r : Fin 16384) : (indexOf x (ix1 ⟨28 * r.val + 26, by omega⟩)).toNat = 26000 + (x (ix2 r 0)).toNat := by
  have h := hx (ix2 r 0)
  rw [indexOf_user, BitVec.toNat_add, BitVec.toNat_ofNat]
  omega
theorem indexOf_item_toNat (r : Fin 16384) : (indexOf x (ix1 ⟨28 * r.val + 27, by omega⟩)).toNat = 27000 + (x (ix2 r 1)).toNat := by
  have h := hx (ix2 r 1)
  rw [indexOf_item, BitVec.toNat_add, BitVec.toNat_ofNat]
  omega

/-- Where every entry of the field indices is below 1000, every entry of the index array is below 28000. -/
theorem indexOf_lt (i : S458752.Idx) : (indexOf x i).toNat < 28000 := by
  have hi : (i 0).val < 458752 := (i 0).isLt
  obtain ⟨r, c, hr, hc, rfl⟩ : ∃ (r c : ℕ) (hr : r < 16384) (hc : c < 28), i = ix1 ⟨28 * r + c, by clear hi hx; omega⟩ :=
    ⟨(i 0).val / 28, (i 0).val % 28, by omega, Nat.mod_lt _ (by decide), by
      funext a; match a with | 0 => exact Fin.ext (Nat.div_add_mod _ 28).symm⟩
  rcases (by omega : c < 26 ∨ c = 26 ∨ c = 27) with h | rfl | rfl
  · have h1 := indexOf_field_toNat hx ⟨r, hr⟩ ⟨c, h⟩
    have h2 := hx (ix2 ⟨r, hr⟩ ⟨c, h⟩)
    dsimp only at h1; omega
  · have h1 := indexOf_user_toNat hx ⟨r, hr⟩
    have h2 := hx (ix2 ⟨r, hr⟩ 0)
    dsimp only at h1; omega
  · have h1 := indexOf_item_toNat hx ⟨r, hr⟩
    have h2 := hx (ix2 ⟨r, hr⟩ 1)
    dsimp only at h1; omega

end Range

section Ends
variable (m : (ℓ : Loc nD τ sig) → Buf (Elt F) ℓ) (ρ : Dev nD → PrngReg)

/-- Field indices below 1000 make the gather's index array name rows of its table. -/
theorem inRows_of (hx : ∀ d i, (m (d, dv main_arg0) i : BitVec 32).toNat < 1000) : InRows (ix m) := by
  intro d i
  rw [show ix m d = indexOf (m (d, dv main_arg0)) from V1_v25 m d]
  exact indexOf_lt (hx d) i

/-- The program runs: every execution ends with the result at the TensorCore kernel's value of `V3`, the arguments as they
    were and every semaphore at zero. -/
theorem run_ends [∀ e, Nonempty (Elt F e)] (hx : ∀ d i, (m (d, dv main_arg0) i : BitVec 32).toNat < 1000) :
    θ_run (Cert.KernelIdeal.defs (F := F)) (Cert.KernelIdeal.threads (F := F)) ⟨m, fun _ => 0, ρ⟩ fun r =>
      (∀ c : Dev nD, r.2.mem ((c.tc : Thread nD τ).loc main_v33) = mlpOut (V3 m) c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10))
      ∧ r.2.sem = fun _ => 0 :=
  (θ_run (Cert.KernelIdeal.defs (F := F)) _ _).mono (fun r h => ⟨fun c =>
      ⟨(h.1 c (dv main_v33) (Pipeline.devRef_mem_ucRefs (b := main_v33) rfl)).trans (V4_v33 m c),
        (h.1 c (dv main_arg0) (Pipeline.devRef_mem_ucRefs (b := main_arg0) rfl)).trans (V4_arg0 m c),
        (h.1 c (dv main_arg1) (Pipeline.devRef_mem_ucRefs (b := main_arg1) rfl)).trans (V4_arg1 m c),
        (h.1 c (dv main_arg2) (Pipeline.devRef_mem_ucRefs (b := main_arg2) rfl)).trans (V4_arg2 m c),
        (h.1 c (dv main_arg3) (Pipeline.devRef_mem_ucRefs (b := main_arg3) rfl)).trans (V4_arg3 m c),
        (h.1 c (dv main_arg4) (Pipeline.devRef_mem_ucRefs (b := main_arg4) rfl)).trans (V4_arg4 m c),
        (h.1 c (dv main_arg5) (Pipeline.devRef_mem_ucRefs (b := main_arg5) rfl)).trans (V4_arg5 m c),
        (h.1 c (dv main_arg6) (Pipeline.devRef_mem_ucRefs (b := main_arg6) rfl)).trans (V4_arg6 m c),
        (h.1 c (dv main_arg7) (Pipeline.devRef_mem_ucRefs (b := main_arg7) rfl)).trans (V4_arg7 m c),
        (h.1 c (dv main_arg8) (Pipeline.devRef_mem_ucRefs (b := main_arg8) rfl)).trans (V4_arg8 m c),
        (h.1 c (dv main_arg9) (Pipeline.devRef_mem_ucRefs (b := main_arg9) rfl)).trans (V4_arg9 m c),
        (h.1 c (dv main_arg10) (Pipeline.devRef_mem_ucRefs (b := main_arg10) rfl)).trans (V4_arg10 m c)⟩, h.2⟩)
    (run_main m ρ (inRows_of m hx))

end Ends

end Cert.Proof.OnKernelIdeal

end
-- ==== Proof.Frames.lean ====
/-
  The frames of the three programs: each runs from every memory its claim speaks of, its arguments end unchanged and
  every semaphore counter ends at zero.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Range
public import proofs.«01_k».proof.Proof.KReads
public import proofs.«01_k».proof.Proof.IReads

@[expose] public section

noncomputable section

namespace Cert.Proof

open Idealize.ShloMosaic Idealize.SL.Sem

/-- The kernel's own program, over 32-bit words. -/
theorem frame_kernel : Cert.quiescent_Kernel (hKernel := Cert.Kernel.Gen.facts) (hPre_in_range := Cert.Pre_in_range.Gen.facts) := fun m g hpre =>
  (θ_run Cert.Kernel.defs _ _).mono (fun _ h => ⟨fun c => (h.1 c).2, h.2⟩)
    (OnKernel.run_ends (F := Bits) m g fun d i => lt_of_in_range (hpre d) i)

/-- The kernel's program over the extended reals. -/
theorem frame_kernel_ideal : Cert.quiescent_KernelIdeal (hKernelIdeal := Cert.KernelIdeal.Gen.facts) (hPre_in_range := Cert.Pre_in_range.Gen.facts) := fun m g hpre =>
  (θ_run Cert.KernelIdeal.defs _ _).mono (fun _ h => ⟨fun c => (h.1 c).2, h.2⟩)
    (OnKernelIdeal.run_ends (F := Ideal) m g fun d i => lt_of_in_range (hpre d) i)

/-- The reference declares no semaphore, so its counters are zero; its run leaves the arguments. -/
theorem frame_reference : Cert.quiescent_ReferenceIdeal (hReferenceIdeal := Cert.ReferenceIdeal.Gen.facts) := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

end Cert.Proof

end
-- ==== Proof.Matrix.lean ====
/-
  The kernel's constant matrix: its entry at row `q`, column `d` is one when `q % 16 = d`, and else zero.
-/
module

public import proofs.«01_k».proof.Proof.IReads

@[expose] public section

noncomputable section

namespace Cert.Proof.OnKernelIdeal

open Cert.KernelIdeal Cert.KernelIdeal.Gen
open Idealize.ShloMosaic Idealize.ShloMosaic.TcCoe

theorem lit0_block : ∀ b : Fin 52, ∀ k : Fin 128, lit0 ⟨128 * b.val + k.val, by omega⟩
    = if (k.val / 16 + 8 * b.val) % 16 = k.val % 16 then 0x3F800000#32 else 0x00000000#32 := by
  decide +kernel

/-- The matrix's words. -/
theorem lit0_apply (q : Fin 416) (d : Fin 16) :
    lit0 (S416x16.rowMajor (ix2 q d)) = if q.val % 16 = d.val then 0x3F800000#32 else 0x00000000#32 := by
  have e : S416x16.rowMajor (ix2 q d) = (⟨128 * (q.val / 8) + (q.val % 8 * 16 + d.val), by omega⟩ : Fin 6656) := Fin.ext (by
    refine (Shape.rowMajor_val_two _).trans ?_
    show q.val * 16 + d.val = 128 * (q.val / 8) + (q.val % 8 * 16 + d.val)
    omega)
  rw [e]
  refine (lit0_block ⟨q.val / 8, by omega⟩ ⟨q.val % 8 * 16 + d.val, by omega⟩).trans ?_
  have h1 : ((q.val % 8 * 16 + d.val) / 16 + 8 * (q.val / 8)) % 16 = q.val % 16 := by omega
  have h2 : (q.val % 8 * 16 + d.val) % 16 = d.val := by omega
  simp only [h1, h2]

end Cert.Proof.OnKernelIdeal

end
-- ==== Proof.Score.lean ====
/-
  The score of one example, the way the kernel adds it up and the way the reference does, over the extended reals; and that
  the two agree whatever the entries are, infinite ones included.
-/
module

public import Idealize.ShloMosaic.PureOps.Ideal
public import Mathlib.Logic.Equiv.Fin.Basic
public import Mathlib.Algebra.BigOperators.Fin

@[expose] public section

noncomputable section

namespace Cert.Proof

/-- The first row of field `f` in the reference's embedding table. -/
def fieldOff (f : Fin 26) : ℕ := if f.val = 0 then 0 else if f.val = 1 then 100000 else 198000 + 1000 * f.val

theorem fieldOff_lt (f : Fin 26) : fieldOff f ≤ 223000 := by unfold fieldOff; split_ifs <;> omega

/-- Position `q` of an example's flattened embeddings: its field and its place within the field. -/
abbrev fieldOf (q : Fin 416) : Fin 26 := ⟨q.val / 16, by omega⟩
abbrev placeOf (q : Fin 416) : Fin 16 := ⟨q.val % 16, by omega⟩

/-- The perceptron's output before its last bias. -/
def deep (E : Fin 26 → Fin 16 → EReal) (w1 : Fin 416 → Fin 64 → EReal) (b1 : Fin 64 → EReal) (w2 : Fin 64 → Fin 32 → EReal)
    (b2 : Fin 32 → EReal) (w3 : Fin 32 → EReal) : EReal :=
  ∑ k, max (∑ j, max (∑ q, E (fieldOf q) (placeOf q) * w1 q j + b1 j) 0 * w2 j k + b2 k) 0 * w3 k

/-- The reference's score: `half` is the factor of the interaction term, `u`, `v` the example's two biases, `gb` the global one. -/
def refScore (half u v gb b3 : EReal) (E : Fin 26 → Fin 16 → EReal) (w1 : Fin 416 → Fin 64 → EReal) (b1 : Fin 64 → EReal)
    (w2 : Fin 64 → Fin 32 → EReal) (b2 : Fin 32 → EReal) (w3 : Fin 32 → EReal) : EReal :=
  gb + u + v + half * ∑ d, ((∑ f, E f d) * (∑ f, E f d) - ∑ f, E f d * E f d) + (deep E w1 b1 w2 b2 w3 + b3)

/-- The kernel's score: the fields are summed by a product with a matrix of zeros and ones, and the squares all at once. -/
def kernelScore (half u v gb b3 : EReal) (E : Fin 26 → Fin 16 → EReal) (w1 : Fin 416 → Fin 64 → EReal) (b1 : Fin 64 → EReal)
    (w2 : Fin 64 → Fin 32 → EReal) (b2 : Fin 32 → EReal) (w3 : Fin 32 → EReal) : EReal :=
  half * (∑ d, (∑ q, E (fieldOf q) (placeOf q) * (if placeOf q = d then 1 else 0)) * (∑ q, E (fieldOf q) (placeOf q) * (if placeOf q = d then 1 else 0))
      - ∑ q, E (fieldOf q) (placeOf q) * E (fieldOf q) (placeOf q))
    + deep E w1 b1 w2 b2 w3 + u + v + (b3 + gb)

/-- A sum over positions is a sum over fields and places. -/
theorem sum_flat (g : Fin 26 → Fin 16 → EReal) : ∑ q : Fin 416, g (fieldOf q) (placeOf q) = ∑ f, ∑ d, g f d := by
  rw [← Fintype.sum_prod_type' (f := g)]
  exact Fintype.sum_equiv (finProdFinEquiv (m := 26) (n := 16)).symm _ _ fun _ => rfl

/-- A square is not negative, an infinity's included. -/
theorem sq_nonneg_ereal (x : EReal) : 0 ≤ x * x := by
  rcases le_total 0 x with h | h
  · exact EReal.mul_nonneg h h
  · have h' : 0 ≤ -x := by rwa [EReal.neg_nonneg]
    rw [← neg_mul_neg]; exact EReal.mul_nonneg h' h'

/-- A sum of numbers that are not negative, subtracted term by term. -/
theorem sum_neg_of_nonneg {ι : Type} (s : Finset ι) (b : ι → EReal) (hb : ∀ i, 0 ≤ b i) : ∑ i ∈ s, -b i = -∑ i ∈ s, b i := by
  classical
  induction s using Finset.induction_on with
  | empty => simp
  | insert a s ha ih =>
    have h1 : b a ≠ ⊥ := fun h => absurd (hb a) (by rw [h]; decide)
    have h2 : ∑ i ∈ s, b i ≠ ⊥ := fun h => absurd (Finset.sum_nonneg fun i (_ : i ∈ s) => hb i) (by rw [h]; decide)
    rw [Finset.sum_insert ha, Finset.sum_insert ha, EReal.neg_add (.inl h1) (.inr h2), ih, sub_eq_add_neg]

/-- The difference of two sums of numbers that are not negative is the sum of the differences. -/
theorem sum_sub_of_nonneg {ι : Type} [Fintype ι] (a b : ι → EReal) (hb : ∀ i, 0 ≤ b i) : ∑ i, (a i - b i) = ∑ i, a i - ∑ i, b i := by
  simp only [sub_eq_add_neg]
  rw [Finset.sum_add_distrib, sum_neg_of_nonneg _ b hb]

/-- Multiplying by the matrix of zeros and ones sums the fields. -/
theorem sum_select (E : Fin 26 → Fin 16 → EReal) (d : Fin 16) :
    ∑ q, E (fieldOf q) (placeOf q) * (if placeOf q = d then 1 else 0) = ∑ f, E f d := by
  rw [sum_flat fun f c => E f c * (if c = d then 1 else 0)]
  refine Finset.sum_congr rfl fun f _ => ?_
  simp

/-- The two scores agree. -/
theorem score_eq (half u v gb b3 : EReal) (E : Fin 26 → Fin 16 → EReal) (w1 : Fin 416 → Fin 64 → EReal) (b1 : Fin 64 → EReal)
    (w2 : Fin 64 → Fin 32 → EReal) (b2 : Fin 32 → EReal) (w3 : Fin 32 → EReal) :
    kernelScore half u v gb b3 E w1 b1 w2 b2 w3 = refScore half u v gb b3 E w1 b1 w2 b2 w3 := by
  unfold kernelScore refScore
  simp only [sum_select]
  rw [sum_flat fun f d => E f d * E f d, Finset.sum_comm, sum_sub_of_nonneg (fun d => (∑ f, E f d) * (∑ f, E f d)) (fun d => ∑ f, E f d * E f d)
    fun d => Finset.sum_nonneg fun f _ => sq_nonneg_ereal (E f d)]
  ac_rfl

end Cert.Proof

end
-- ==== Proof.Value.lean ====
/-
  The kernel's result, read at an example: the score of that example.
-/
module

public import proofs.«01_k».proof.Proof.Matrix
public import proofs.«01_k».proof.Proof.Score
public import Idealize.ShloMosaic.Lib.Pipeline.Value

@[expose] public section

noncomputable section

namespace Cert.Proof.OnKernelIdeal

open Cert.KernelIdeal Cert.KernelIdeal.Gen
open Idealize.ShloMosaic Idealize.ShloMosaic.TcCoe
open Idealize.ShloMosaic.StableHlo

/-! ## The compact table's rows -/

section Table
variable (e : FVec Ideal S224000x16 .f32) (ub ib : FVec Ideal S100000x1 .f32)

/-- A bias table's row, read at its first column. -/
theorem biasRows_apply (b : FVec Ideal S100000x1 .f32) (n : Fin 1000) : biasRows b (ix2 n 0) = b (ix2 ⟨n.val, by omega⟩ 0) := by
  pointwise [biasRows]

/-- The compact table's row `k`: from which array, and which of its rows. -/
theorem table_apply (k : Fin 28000) (c : Fin 16) : tableOf e ub ib (ix2 k c)
    = if h : k.val < 1000 then e (ix2 ⟨k.val, by omega⟩ c)
      else if h1 : k.val - 1000 < 1000 then e (ix2 ⟨100000 + (k.val - 1000), by omega⟩ c)
      else if h2 : k.val - 1000 - 1000 < 24000 then e (ix2 ⟨200000 + (k.val - 1000 - 1000), by omega⟩ c)
      else if h3 : k.val - 1000 - 1000 - 24000 < 1000 then biasRows ub (ix2 ⟨k.val - 1000 - 1000 - 24000, by omega⟩ c)
      else biasRows ib (ix2 ⟨k.val - 1000 - 1000 - 24000 - 1000, by omega⟩ c) := by
  unfold tableOf
  generalize biasRows ub = A
  generalize biasRows ib = B
  pointwise []

/-- A field's rows in the compact table are its first thousand of the embedding table. -/
theorem table_field (f : Fin 26) (n : ℕ) (hn : n < 1000) (c : Fin 16) :
    tableOf e ub ib (ix2 ⟨n + 1000 * f.val, by omega⟩ c) = e (ix2 ⟨n + fieldOff f, by have := fieldOff_lt f; omega⟩ c) := by
  have hf := f.isLt
  have hv : fieldOff f = if f.val = 0 then 0 else if f.val = 1 then 100000 else 198000 + 1000 * f.val := rfl
  rw [table_apply]
  split_ifs at hv <;> simp only [hv] <;> split_ifs <;>
    first | omega | exact congrArg (fun a => e (ix2 a c)) (Fin.ext (by dsimp only; omega))

/-- The first bias table's rows. -/
theorem table_user (n : ℕ) (hn : n < 1000) :
    tableOf e ub ib (ix2 ⟨26000 + n, by omega⟩ 0) = ub (ix2 ⟨n, by omega⟩ 0) := by
  rw [table_apply, dif_neg (by simp only []; omega), dif_neg (by simp only []; omega), dif_neg (by simp only []; omega), dif_pos (by simp only []; omega), biasRows_apply]
  exact congrArg (fun a => ub (ix2 a 0)) (Fin.ext (by dsimp only; omega))

/-- The second bias table's rows. -/
theorem table_item (n : ℕ) (hn : n < 1000) :
    tableOf e ub ib (ix2 ⟨27000 + n, by omega⟩ 0) = ib (ix2 ⟨n, by omega⟩ 0) := by
  rw [table_apply, dif_neg (by simp only []; omega), dif_neg (by simp only []; omega), dif_neg (by simp only []; omega), dif_neg (by simp only []; omega), biasRows_apply]
  exact congrArg (fun a => ib (ix2 a 0)) (Fin.ext (by dsimp only; omega))

end Table

/-! ## What the rows of the gather's result are -/

section Rows
variable (m : (ℓ : Loc nD τ sig) → Buf (Elt Ideal) ℓ) (d : Dev nD)

abbrev argX : IVec S16384x26 32 := m (d, dv main_arg0)
abbrev argE : FVec Ideal S224000x16 .f32 := m (d, dv main_arg1)
abbrev argU : FVec Ideal S100000x1 .f32 := m (d, dv main_arg2)
abbrev argI : FVec Ideal S100000x1 .f32 := m (d, dv main_arg3)

/-- The TensorCore kernel's first operand, read at an example's position `q`. -/
theorem flat_apply (r : Fin 16384) (q : Fin 448) : (V3 m d (dv main_v27) : FVec Ideal S16384x448 .f32) (ix2 r q)
    = tableOf (argE m d) (argU m d) (argI m d) (ix2 (rowOfWord (indexOf (argX m d) (ix1 ⟨28 * r.val + q.val / 16, by omega⟩))) ⟨q.val % 16, by omega⟩) := by
  rw [V3_v27, ← V1_v7, ← V1_v25]
  show _ = gathered (tb m d) (ix m d) (ix2 ⟨28 * r.val + q.val / 16, by omega⟩ ⟨q.val % 16, by omega⟩)
  generalize (gathered (tb m d) (ix m d) : FVec Ideal S458752x16 .f32) = G
  have hq := q.isLt
  have hr := r.isLt
  pointwise []
  exact congrArg (fun a => G (ix2 a _)) (Fin.ext (by dsimp only; omega))

variable (hx : ∀ i, (argX m d i).toNat < 1000)
include hx

theorem flat_field (r : Fin 16384) (q : Fin 416) : (V3 m d (dv main_v27) : FVec Ideal S16384x448 .f32) (ix2 r ⟨q.val, by omega⟩)
    = argE m d (ix2 ⟨(argX m d (ix2 r (fieldOf q))).toNat + fieldOff (fieldOf q), by have := hx (ix2 r (fieldOf q)); have := fieldOff_lt (fieldOf q); omega⟩ (placeOf q)) := by
  have hw := indexOf_field_toNat hx r (fieldOf q)
  have h := hx (ix2 r (fieldOf q))
  rw [flat_apply, ← table_field (argE m d) (argU m d) (argI m d) (fieldOf q) _ h (placeOf q)]
  refine congrArg (fun a => tableOf _ _ _ (ix2 a _)) (Fin.ext ?_)
  show min (indexOf (argX m d) (ix1 ⟨28 * r.val + q.val / 16, _⟩)).toNat 27999 = _
  rw [hw]
  dsimp only
  omega

theorem flat_user (r : Fin 16384) : (V3 m d (dv main_v27) : FVec Ideal S16384x448 .f32) (ix2 r 416)
    = argU m d (ix2 ⟨(argX m d (ix2 r 0)).toNat, by have := hx (ix2 r 0); omega⟩ 0) := by
  have hw := indexOf_user_toNat hx r
  have h := hx (ix2 r 0)
  rw [flat_apply, ← table_user (argE m d) (argU m d) (argI m d) _ h]
  refine congrArg (fun a => tableOf _ _ _ (ix2 a _)) (Fin.ext ?_)
  show min (indexOf (argX m d) (ix1 ⟨28 * r.val + 26, _⟩)).toNat 27999 = _
  rw [hw]
  dsimp only
  omega

theorem flat_item (r : Fin 16384) : (V3 m d (dv main_v27) : FVec Ideal S16384x448 .f32) (ix2 r 432)
    = argI m d (ix2 ⟨(argX m d (ix2 r 1)).toNat, by have := hx (ix2 r 1); omega⟩ 0) := by
  have hw := indexOf_item_toNat hx r
  have h := hx (ix2 r 1)
  rw [flat_apply, ← table_item (argE m d) (argU m d) (argI m d) _ h]
  refine congrArg (fun a => tableOf _ _ _ (ix2 a _)) (Fin.ext ?_)
  show min (indexOf (argX m d) (ix1 ⟨28 * r.val + 27, _⟩)).toNat 27999 = _
  rw [hw]
  dsimp only
  omega

end Rows

/-! ## The TensorCore kernel's operands, block by block -/

section Blocks
variable (Wc : Dev nD → Valuation τ sig (Elt Ideal)) (c : Dev nD) (t : Fin cfg1.N)

theorem win0_facts : ∀ t : Fin cfg1.N, win1_0.index t 0 * win1_0.size 0 = t.val * 256 ∧ win1_0.index t 1 * win1_0.size 1 = 0 := by decide +kernel

theorem iblk0 (r : Fin 256) (q : Fin 448) : (iblk Wc c 0 t : S256x448.Idx → Ideal .f32) (ix2 r q)
    = (Wc c (dv main_v27) : FVec Ideal S16384x448 .f32) (ix2 ⟨t.val * 256 + r.val, by have : t.val < 64 := N_1 ▸ t.isLt; omega⟩ q) := by
  have e := win0_facts t
  show Wc c (dv main_v27) (((cfg1.win 0).rect t).emb (ix2 r q)) = _
  refine congrArg (Wc c (dv main_v27)) ?_
  funext a
  match a with
  | ⟨0, _⟩ => exact Fin.ext ((Pipeline.Window.rect_emb_val win1_0 t (ix2 r q) 0).trans (by rw [e.1]; rfl))
  | ⟨1, _⟩ => exact Fin.ext ((Pipeline.Window.rect_emb_val win1_0 t (ix2 r q) 1).trans (by rw [e.2]; exact Nat.zero_add _))

theorem win1_facts : ∀ t : Fin cfg1.N, win1_1.index t 0 * win1_1.size 0 = 0 ∧ win1_1.index t 1 * win1_1.size 1 = 0 := by decide +kernel
theorem iblk1 : (iblk Wc c 1 t : S416x80.Idx → Ideal .f32) = (Wc c (dv main_v28) : FVec Ideal S416x80 .f32) := by
  have e := win1_facts t
  funext y
  show Wc c (dv main_v28) (((cfg1.win 1).rect t).emb y) = _
  refine congrArg (Wc c (dv main_v28)) ?_
  funext a
  match a with
  | ⟨0, _⟩ => exact Fin.ext ((Pipeline.Window.rect_emb_val win1_1 t y 0).trans (by rw [e.1]; exact Nat.zero_add _))
  | ⟨1, _⟩ => exact Fin.ext ((Pipeline.Window.rect_emb_val win1_1 t y 1).trans (by rw [e.2]; exact Nat.zero_add _))

theorem win2_facts : ∀ t : Fin cfg1.N, win1_2.index t 0 * win1_2.size 0 = 0 ∧ win1_2.index t 1 * win1_2.size 1 = 0 := by decide +kernel
theorem iblk2 : (iblk Wc c 2 t : S64x32.Idx → Ideal .f32) = (Wc c (dv main_arg7) : FVec Ideal S64x32 .f32) := by
  have e := win2_facts t
  funext y
  show Wc c (dv main_arg7) (((cfg1.win 2).rect t).emb y) = _
  refine congrArg (Wc c (dv main_arg7)) ?_
  funext a
  match a with
  | ⟨0, _⟩ => exact Fin.ext ((Pipeline.Window.rect_emb_val win1_2 t y 0).trans (by rw [e.1]; exact Nat.zero_add _))
  | ⟨1, _⟩ => exact Fin.ext ((Pipeline.Window.rect_emb_val win1_2 t y 1).trans (by rw [e.2]; exact Nat.zero_add _))

theorem win3_facts : ∀ t : Fin cfg1.N, win1_3.index t 0 * win1_3.size 0 = 0 ∧ win1_3.index t 1 * win1_3.size 1 = 0 := by decide +kernel
theorem iblk3 : (iblk Wc c 3 t : S32x1.Idx → Ideal .f32) = (Wc c (dv main_arg9) : FVec Ideal S32x1 .f32) := by
  have e := win3_facts t
  funext y
  show Wc c (dv main_arg9) (((cfg1.win 3).rect t).emb y) = _
  refine congrArg (Wc c (dv main_arg9)) ?_
  funext a
  match a with
  | ⟨0, _⟩ => exact Fin.ext ((Pipeline.Window.rect_emb_val win1_3 t y 0).trans (by rw [e.1]; exact Nat.zero_add _))
  | ⟨1, _⟩ => exact Fin.ext ((Pipeline.Window.rect_emb_val win1_3 t y 1).trans (by rw [e.2]; exact Nat.zero_add _))

theorem win4_facts : ∀ t : Fin cfg1.N, win1_4.index t 0 * win1_4.size 0 = 0 ∧ win1_4.index t 1 * win1_4.size 1 = 0 := by decide +kernel
theorem iblk4 : (iblk Wc c 4 t : S1x64.Idx → Ideal .f32) = (Wc c (dv main_v31) : FVec Ideal S1x64 .f32) := by
  have e := win4_facts t
  funext y
  show Wc c (dv main_v31) (((cfg1.win 4).rect t).emb y) = _
  refine congrArg (Wc c (dv main_v31)) ?_
  funext a
  match a with
  | ⟨0, _⟩ => exact Fin.ext ((Pipeline.Window.rect_emb_val win1_4 t y 0).trans (by rw [e.1]; exact Nat.zero_add _))
  | ⟨1, _⟩ => exact Fin.ext ((Pipeline.Window.rect_emb_val win1_4 t y 1).trans (by rw [e.2]; exact Nat.zero_add _))

theorem win5_facts : ∀ t : Fin cfg1.N, win1_5.index t 0 * win1_5.size 0 = 0 ∧ win1_5.index t 1 * win1_5.size 1 = 0 := by decide +kernel
theorem iblk5 : (iblk Wc c 5 t : S1x32.Idx → Ideal .f32) = (Wc c (dv main_v32) : FVec Ideal S1x32 .f32) := by
  have e := win5_facts t
  funext y
  show Wc c (dv main_v32) (((cfg1.win 5).rect t).emb y) = _
  refine congrArg (Wc c (dv main_v32)) ?_
  funext a
  match a with
  | ⟨0, _⟩ => exact Fin.ext ((Pipeline.Window.rect_emb_val win1_5 t y 0).trans (by rw [e.1]; exact Nat.zero_add _))
  | ⟨1, _⟩ => exact Fin.ext ((Pipeline.Window.rect_emb_val win1_5 t y 1).trans (by rw [e.2]; exact Nat.zero_add _))

theorem win6_facts : ∀ t : Fin cfg1.N, win1_6.index t 0 * win1_6.size 0 = 0 ∧ win1_6.index t 1 * win1_6.size 1 = 0 := by decide +kernel
theorem iblk6 : (iblk Wc c 6 t : S1x1.Idx → Ideal .f32) = (Wc c (dv main_v30) : FVec Ideal S1x1 .f32) := by
  have e := win6_facts t
  funext y
  show Wc c (dv main_v30) (((cfg1.win 6).rect t).emb y) = _
  refine congrArg (Wc c (dv main_v30)) ?_
  funext a
  match a with
  | ⟨0, _⟩ => exact Fin.ext ((Pipeline.Window.rect_emb_val win1_6 t y 0).trans (by rw [e.1]; exact Nat.zero_add _))
  | ⟨1, _⟩ => exact Fin.ext ((Pipeline.Window.rect_emb_val win1_6 t y 1).trans (by rw [e.2]; exact Nat.zero_add _))

end Blocks

/-! ## A block's result -/

/-- Entry `r` of a block's result. -/
theorem block_apply (x0 : S256x448.Idx → Ideal .f32) (x1 : S416x80.Idx → Ideal .f32) (x2 : S64x32.Idx → Ideal .f32)
    (x3 : S32x1.Idx → Ideal .f32) (x4 : S1x64.Idx → Ideal .f32) (x5 : S1x32.Idx → Ideal .f32) (x6 : S1x1.Idx → Ideal .f32) (r : Fin 256) :
    blockVal (F := Ideal) x0 x1 x2 x3 x4 x5 x6 (ix1 r)
      = Ideal.ofBits .f32 0x3F000000#32 *
          (∑ d : Fin 16, (∑ q : Fin 416, x0 (ix2 r ⟨q.val, by omega⟩) * x1 (ix2 q ⟨64 + d.val, by omega⟩))
              * (∑ q : Fin 416, x0 (ix2 r ⟨q.val, by omega⟩) * x1 (ix2 q ⟨64 + d.val, by omega⟩))
            - ∑ q : Fin 416, x0 (ix2 r ⟨q.val, by omega⟩) * x0 (ix2 r ⟨q.val, by omega⟩))
        + (∑ k : Fin 32, max (∑ j : Fin 64, max (∑ q : Fin 416, x0 (ix2 r ⟨q.val, by omega⟩) * x1 (ix2 q ⟨j.val, by omega⟩) + x4 (ix2 0 j)) 0 * x2 (ix2 j k)
            + x5 (ix2 0 k)) 0 * x3 (ix2 k 0))
        + x0 (ix2 r 416) + x0 (ix2 r 432) + x6 (ix2 0 0) := by
  unfold blockVal
  simp only [View.ld_unit]
  pointwise [k1_pay1, k1_pay2, k1_pay3, k1_pay4, k1_pay5, k1_pay6, k1_pay7]

/-- A block's entry is an example's score, given what the block's operands hold. -/
theorem block_score (x0 : S256x448.Idx → Ideal .f32) (x1 : S416x80.Idx → Ideal .f32) (x2 : S64x32.Idx → Ideal .f32)
    (x3 : S32x1.Idx → Ideal .f32) (x4 : S1x64.Idx → Ideal .f32) (x5 : S1x32.Idx → Ideal .f32) (x6 : S1x1.Idx → Ideal .f32) (r : Fin 256)
    (u v gb b3 : EReal) (E : Fin 26 → Fin 16 → EReal) (w1 : Fin 416 → Fin 64 → EReal) (b1 : Fin 64 → EReal)
    (w2 : Fin 64 → Fin 32 → EReal) (b2 : Fin 32 → EReal) (w3 : Fin 32 → EReal)
    (h0 : ∀ q : Fin 416, x0 (ix2 r ⟨q.val, by omega⟩) = E (fieldOf q) (placeOf q)) (hu : x0 (ix2 r 416) = u) (hv : x0 (ix2 r 432) = v)
    (h1 : ∀ (q : Fin 416) (j : Fin 64), x1 (ix2 q ⟨j.val, by omega⟩) = w1 q j)
    (hs : ∀ (q : Fin 416) (c : Fin 16), x1 (ix2 q ⟨64 + c.val, by omega⟩) = if placeOf q = c then (1 : EReal) else 0)
    (h2 : ∀ j k, x2 (ix2 j k) = w2 j k) (h3 : ∀ k, x3 (ix2 k 0) = w3 k) (h4 : ∀ j, x4 (ix2 0 j) = b1 j) (h5 : ∀ k, x5 (ix2 0 k) = b2 k)
    (h6 : x6 (ix2 0 0) = b3 + gb) :
    blockVal (F := Ideal) x0 x1 x2 x3 x4 x5 x6 (ix1 r) = kernelScore (Ideal.ofBits .f32 0x3F000000#32) u v gb b3 E w1 b1 w2 b2 w3 := by
  rw [block_apply]
  simp only [h0, hu, hv, h1, hs, h2, h3, h4, h5, h6]
  rfl

/-! ## The result -/

section Result
variable (m : (ℓ : Loc nD τ sig) → Buf (Elt Ideal) ℓ) (d : Dev nD)

abbrev argG : FVec Ideal S1 .f32 := m (d, dv main_arg4)
abbrev argW1 : FVec Ideal S416x64 .f32 := m (d, dv main_arg5)
abbrev argB1 : FVec Ideal S64 .f32 := m (d, dv main_arg6)
abbrev argW2 : FVec Ideal S64x32 .f32 := m (d, dv main_arg7)
abbrev argB2 : FVec Ideal S32 .f32 := m (d, dv main_arg8)
abbrev argW3 : FVec Ideal S32x1 .f32 := m (d, dv main_arg9)
abbrev argB3 : FVec Ideal S1 .f32 := m (d, dv main_arg10)

/-- The joined matrix's first columns are the first layer's weights. -/
theorem cat_weights (q : Fin 416) (j : Fin 64) : (V3 m d (dv main_v28) : FVec Ideal S416x80 .f32) (ix2 q ⟨j.val, by omega⟩) = argW1 m d (ix2 q j) := by
  have hj := j.isLt
  rw [V3_v28]
  generalize (fun i => FloatOps.ofBits .f32 (lit0 (S416x16.rowMajor i)) : FVec Ideal S416x16 .f32) = M
  pointwise []

/-- Its last sixteen columns are zeros and ones. -/
theorem cat_select (q : Fin 416) (c : Fin 16) : (V3 m d (dv main_v28) : FVec Ideal S416x80 .f32) (ix2 q ⟨64 + c.val, by omega⟩) = (if placeOf q = c then 1 else 0 : EReal) := by
  have hM : (FloatOps.ofBits .f32 (lit0 (S416x16.rowMajor (ix2 q c))) : Ideal .f32) = (if placeOf q = c then 1 else 0 : EReal) := by
    rw [lit0_apply]
    by_cases h : q.val % 16 = c.val
    · rw [if_pos h, if_pos (Fin.ext h)]; exact Ideal.ofBits_one_f32
    · rw [if_neg h, if_neg (fun e => h (congrArg Fin.val e))]; exact Ideal.ofBits_zero_f32
  rw [V3_v28, ← hM]
  show _ = (fun i => FloatOps.ofBits .f32 (lit0 (S416x16.rowMajor i)) : FVec Ideal S416x16 .f32) (ix2 q c)
  generalize (fun i => FloatOps.ofBits .f32 (lit0 (S416x16.rowMajor i)) : FVec Ideal S416x16 .f32) = M
  pointwise []

theorem v30_apply : (V3 m d (dv main_v30) : FVec Ideal S1x1 .f32) (ix2 0 0) = argB3 m d (ix1 0) + argG m d (ix1 0) := by
  rw [V3_v30]; pointwise []
theorem v31_apply (j : Fin 64) : (V3 m d (dv main_v31) : FVec Ideal S1x64 .f32) (ix2 0 j) = argB1 m d (ix1 j) := by
  rw [V3_v31]; pointwise []
theorem v32_apply (k : Fin 32) : (V3 m d (dv main_v32) : FVec Ideal S1x32 .f32) (ix2 0 k) = argB2 m d (ix1 k) := by
  rw [V3_v32]; pointwise []

/-- Entry `r` of the kernel's result is the score of example `r`. -/
theorem mlpOut_apply (hx : ∀ i, (argX m d i).toNat < 1000) (r : Fin 16384) : mlpOut (V3 m) d (ix1 r)
    = kernelScore (Ideal.ofBits .f32 0x3F000000#32) (argU m d (ix2 ⟨(argX m d (ix2 r 0)).toNat, by have := hx (ix2 r 0); omega⟩ 0))
        (argI m d (ix2 ⟨(argX m d (ix2 r 1)).toNat, by have := hx (ix2 r 1); omega⟩ 0)) (argG m d (ix1 0)) (argB3 m d (ix1 0))
        (fun f c => argE m d (ix2 ⟨(argX m d (ix2 r f)).toNat + fieldOff f, by have := hx (ix2 r f); have := fieldOff_lt f; omega⟩ c))
        (fun q j => argW1 m d (ix2 q j)) (fun j => argB1 m d (ix1 j)) (fun j k => argW2 m d (ix2 j k)) (fun k => argB2 m d (ix1 k))
        (fun k => argW3 m d (ix2 k 0)) := by
  have hr := r.isLt
  have hrow : (⟨(ptOf (ix1 r)).val * 256 + r.val % 256, by show r.val / 256 * 256 + _ < _; omega⟩ : Fin 16384) = r :=
    Fin.ext (Nat.div_add_mod' _ _)
  have h0 : ∀ q : Fin 448, (iblk (V3 m) d 0 (ptOf (ix1 r)) : S256x448.Idx → Ideal .f32) (ix2 ⟨r.val % 256, Nat.mod_lt _ (by decide)⟩ q)
      = (V3 m d (dv main_v27) : FVec Ideal S16384x448 .f32) (ix2 r q) := fun q =>
    (iblk0 (V3 m) d (ptOf (ix1 r)) ⟨r.val % 256, Nat.mod_lt _ (by decide)⟩ q).trans
      (congrArg (fun a => (V3 m d (dv main_v27) : FVec Ideal S16384x448 .f32) (ix2 a q)) hrow)
  unfold mlpOut
  refine block_score _ _ _ _ _ _ _ ⟨r.val % 256, Nat.mod_lt _ (by decide)⟩ _ _ _ _ _ _ _ _ _ _
    (fun q => (h0 _).trans (flat_field m d hx r q)) ((h0 _).trans (flat_user m d hx r)) ((h0 _).trans (flat_item m d hx r))
    (fun q j => (congrFun (iblk1 (V3 m) d _) _).trans (cat_weights m d q j)) (fun q c => (congrFun (iblk1 (V3 m) d _) _).trans (cat_select m d q c))
    (fun j k => (congrFun (iblk2 (V3 m) d _) _).trans (congrFun (V3_arg7 m d) _)) (fun k => (congrFun (iblk3 (V3 m) d _) _).trans (congrFun (V3_arg9 m d) _))
    (fun j => (congrFun (iblk4 (V3 m) d _) _).trans (v31_apply m d j)) (fun k => (congrFun (iblk5 (V3 m) d _) _).trans (v32_apply m d k))
    ((congrFun (iblk6 (V3 m) d _) _).trans (v30_apply m d))

end Result

end Cert.Proof.OnKernelIdeal

end
-- ==== Proof.RefValue.lean ====
/-
  The reference's result, read at an example.
-/
module

public import proofs.«01_k».proof.Proof.Gen.ReferenceIdeal.Run
public import Idealize.ShloMosaic.Lib.Pointwise
public import Idealize.ShloMosaic.Lib.ReduceAll
public import Idealize.ShloMosaic.Lib.WordCmp
public import proofs.«01_k».proof.Proof.Score

@[expose] public section

noncomputable section

namespace Cert.Proof.OnReference

open Cert.ReferenceIdeal Cert.ReferenceIdeal.Gen
open Idealize.ShloMosaic Idealize.ShloMosaic.TcCoe

variable {F : FTy → Type} [FloatOps F]

/-! ## Looking rows up -/

/-- An index array's words, the negative ones moved up by the number of rows. -/
def wrapBias (k : IVec S16384 32) : IVec S16384x1 32 :=
  broadcastInDim S16384x1 ![0] bcast_S16384_S16384x1_0 (select (cmpi .slt k (broadcastInDim S16384 ![] bcast_S_S16384 (constantI S_ 32 0#32)))
    (addi k (broadcastInDim S16384 ![] bcast_S_S16384 (constantI S_ 32 100000#32))) k)
def wrapEmb (k : IVec S16384x26 32) : IVec S16384x26x1 32 :=
  broadcastInDim S16384x26x1 ![0, 1] bcast_S16384x26_S16384x26x1_0_1 (select (cmpi .slt k (broadcastInDim S16384x26 ![] bcast_S_S16384x26 (constantI S_ 32 0#32)))
    (addi k (broadcastInDim S16384x26 ![] bcast_S_S16384x26 (constantI S_ 32 224000#32))) k)

/-- A bias table's rows at an index array; an index that names no row gives not-a-number. -/
def takeBias (b : FVec F S100000x1 .f32) (k : IVec S16384 32) : FVec F S16384x1 .f32 :=
  select (broadcastInDim S16384x1 ![0] bcast_S16384_S16384x1_0 (Host.reduce IntOp.andi
      (andi (cmpi .sge (wrapBias k) (broadcastInDim S16384x1 ![] bcast_S_S16384x1 (constantI S_ 32 0#32)))
        (cmpi .sle (wrapBias k) (broadcastInDim S16384x1 ![0, 1] bcast_S1x1_S16384x1_0_1 (broadcastInDim S1x1 ![1] bcast_S1_S1x1_1 (constantI S1 32 99999#32)))))
      (constantI S_ 1 1#1) reducesTo_S16384x1_S16384_d1 h_S_))
    (Host.gather gather_S100000x1_S16384x1_S16384x1_1_0_n_n_0_1_11 b (wrapBias k))
    (broadcastInDim S16384x1 ![] bcast_S_S16384x1 (constant S_ .f32 0x7FC00000#32))

/-- The embedding table's rows at an index array. -/
def takeEmb (e : FVec F S224000x16 .f32) (k : IVec S16384x26 32) : FVec F S16384x26x16 .f32 :=
  select (broadcastInDim S16384x26x16 ![0, 1] bcast_S16384x26_S16384x26x16_0_1 (Host.reduce IntOp.andi
      (andi (cmpi .sge (wrapEmb k) (broadcastInDim S16384x26x1 ![] bcast_S_S16384x26x1 (constantI S_ 32 0#32)))
        (cmpi .sle (wrapEmb k) (broadcastInDim S16384x26x1 ![0, 1, 2] bcast_S1x1x1_S16384x26x1_0_1_2 (broadcastInDim S1x1x1 ![2] bcast_S1_S1x1x1_2 (constantI S1 32 223999#32)))))
      (constantI S_ 1 1#1) reducesTo_S16384x26x1_S16384x26_d2 h_S_))
    (Host.gather gather_S224000x16_S16384x26x1_S16384x26x16_2_0_n_n_0_2_116 e (wrapEmb k))
    (broadcastInDim S16384x26x16 ![] bcast_S_S16384x26x16 (constant S_ .f32 0x7FC00000#32))

/-- A gather of one-entry rows, read: the row its word names, read signed and held inside the table. -/
theorem gather_bias_apply (b : FVec F S100000x1 .f32) (k : IVec S16384x1 32) (r : Fin 16384) :
    Host.gather gather_S100000x1_S16384x1_S16384x1_1_0_n_n_0_1_11 b k (ix2 r 0) = b (ix2 ⟨min (k (ix2 r 0)).toInt.toNat 99999, by omega⟩ 0) := by
  unfold Host.gather
  congr 1
  funext a
  refine Fin.ext ?_
  match a with
  | ⟨0, _⟩ =>
    have hsi : gather_S100000x1_S16384x1_S16384x1_1_0_n_n_0_1_11.siIdx (ix2 r 0) ⟨0, Nat.one_pos⟩ = ix2 r 0 := by
      funext c; match c with
      | ⟨0, _⟩ => rfl
      | ⟨1, _⟩ => rfl
    show gather_S100000x1_S16384x1_S16384x1_1_0_n_n_0_1_11.start (ix2 r 0) k 0 + 0 + 0 = _
    unfold GatherDims.start
    rw [dif_pos (show (0 : Fin 2) ∈ gather_S100000x1_S16384x1_S16384x1_1_0_n_n_0_1_11.startIndexMap from List.mem_singleton.mpr rfl)]
    show min (k (gather_S100000x1_S16384x1_S16384x1_1_0_n_n_0_1_11.siIdx (ix2 r 0) ⟨0, Nat.one_pos⟩)).toInt.toNat _ = _
    rw [hsi]; rfl
  | ⟨1, _⟩ => rfl

/-- A gather of rows of sixteen, read. -/
theorem gather_emb_apply (e : FVec F S224000x16 .f32) (k : IVec S16384x26x1 32) (r : Fin 16384) (f : Fin 26) (c : Fin 16) :
    Host.gather gather_S224000x16_S16384x26x1_S16384x26x16_2_0_n_n_0_2_116 e k (ix3 r f c)
      = e (ix2 ⟨min (k (ix3 r f 0)).toInt.toNat 223999, by omega⟩ c) := by
  unfold Host.gather
  congr 1
  funext a
  refine Fin.ext ?_
  match a with
  | ⟨0, _⟩ =>
    have hsi : gather_S224000x16_S16384x26x1_S16384x26x16_2_0_n_n_0_2_116.siIdx (ix3 r f c) ⟨0, Nat.one_pos⟩ = ix3 r f 0 := by
      funext q; match q with
      | ⟨0, _⟩ => rfl
      | ⟨1, _⟩ => rfl
      | ⟨2, _⟩ => rfl
    show gather_S224000x16_S16384x26x1_S16384x26x16_2_0_n_n_0_2_116.start (ix3 r f c) k 0 + 0 + 0 = _
    unfold GatherDims.start
    rw [dif_pos (show (0 : Fin 2) ∈ gather_S224000x16_S16384x26x1_S16384x26x16_2_0_n_n_0_2_116.startIndexMap from List.mem_singleton.mpr rfl)]
    show min (k (gather_S224000x16_S16384x26x1_S16384x26x16_2_0_n_n_0_2_116.siIdx (ix3 r f c) ⟨0, Nat.one_pos⟩)).toInt.toNat _ = _
    rw [hsi]; rfl
  | ⟨1, _⟩ =>
    show 0 + 0 + (ix3 r f c (2 : Fin 3)).val = _
    rw [Nat.zero_add]; rfl

/-- A word below `n` is, read signed, the same number, and is nonnegative and at most `n - 1`. -/
theorem word_facts (n : ℕ) (hn : n + 1 < 2 ^ 31) (v : BitVec 32) (hv : v.toNat < n + 1) :
    IntOp.cmpi .slt v 0#32 = 0#1 ∧ IntOp.andi (IntOp.cmpi .sge v 0#32) (IntOp.cmpi .sle v (BitVec.ofNat 32 n)) = 1#1 ∧ v.toInt.toNat = v.toNat := by
  have h1 : v.toInt = (v.toNat : Int) := by rw [BitVec.toInt_eq_toNat_cond]; omega
  have h2 : (BitVec.ofNat 32 n).toInt = (n : Int) := by
    rw [BitVec.toInt_eq_toNat_cond, BitVec.toNat_ofNat]; omega
  refine ⟨?_, ?_, by omega⟩
  · simp only [IntOp.cmpi, BitVec.slt_eq_decide, h1]
    rw [decide_eq_false (by simp)]; rfl
  · simp only [IntOp.cmpi, BitVec.sle_eq_decide, h1, h2]
    rw [decide_eq_true (by simp), decide_eq_true (by omega)]; rfl

theorem takeBias_apply (b : FVec F S100000x1 .f32) (k : IVec S16384 32) (r : Fin 16384) (h : (k (ix1 r)).toNat < 100000) :
    takeBias b k (ix2 r 0) = b (ix2 ⟨(k (ix1 r)).toNat, h⟩ 0) := by
  obtain ⟨h1, h2, h3⟩ := word_facts 99999 (by decide) (k (ix1 r)) h
  have hw : wrapBias k (ix2 r 0) = k (ix1 r) := by
    pointwise [wrapBias]
    rw [h1]; rfl
  pointwise [takeBias]
  rw [show (Finset.univ : Finset (Fin 1)) = {0} from rfl, Finset.fold_singleton, hw, h2, gather_bias_apply]
  refine (show Scalar.select (IntOp.andi 1#1 1#1) _ _ = _ from rfl).trans (congrArg b ?_)
  congr 1
  refine Fin.ext ?_
  show min (wrapBias k (ix2 r 0)).toInt.toNat 99999 = (k (ix1 r)).toNat
  rw [hw, h3]; omega

theorem takeEmb_apply (e : FVec F S224000x16 .f32) (k : IVec S16384x26 32) (r : Fin 16384) (f : Fin 26) (c : Fin 16) (h : (k (ix2 r f)).toNat < 224000) :
    takeEmb e k (ix3 r f c) = e (ix2 ⟨(k (ix2 r f)).toNat, h⟩ c) := by
  obtain ⟨h1, h2, h3⟩ := word_facts 223999 (by decide) (k (ix2 r f)) h
  have hw : wrapEmb k (ix3 r f 0) = k (ix2 r f) := by
    pointwise [wrapEmb]
    rw [h1]; rfl
  pointwise [takeEmb]
  rw [show (Finset.univ : Finset (Fin 1)) = {0} from rfl, Finset.fold_singleton, hw, h2, gather_emb_apply]
  refine (show Scalar.select (IntOp.andi 1#1 1#1) _ _ = _ from rfl).trans (congrArg e ?_)
  congr 1
  refine Fin.ext ?_
  show min (wrapEmb k (ix3 r f 0)).toInt.toNat 223999 = (k (ix2 r f)).toNat
  rw [hw, h3]; omega

/-! ## The index arrays -/

/-- The first and second field's indices. -/
def userCol (x : IVec S16384x26 32) : IVec S16384 32 := shapeCast S16384 (extractStridedSlice S16384x1 ![0, 0] x slices_S16384x26_S16384x1_0_0) shapeCasts_S16384x1_S16384
def itemCol (x : IVec S16384x26 32) : IVec S16384 32 := shapeCast S16384 (extractStridedSlice S16384x1 ![0, 1] x slices_S16384x26_S16384x1_0_1) shapeCasts_S16384x1_S16384
/-- Each field's rows in the embedding table. -/
def embRow (x : IVec S16384x26 32) : IVec S16384x26 32 :=
  addi x (broadcastInDim S16384x26 ![0, 1] bcast_S1x26_S16384x26_0_1 (broadcastInDim S1x26 ![1] bcast_S26_S1x26_1 (fun i => lit0 (S26.rowMajor i))))

theorem lit0_toNat : ∀ f : Fin 26, (lit0 f).toNat = fieldOff f := by decide

theorem userCol_apply (x : IVec S16384x26 32) (r : Fin 16384) : userCol x (ix1 r) = x (ix2 r 0) := by pointwise [userCol]
theorem itemCol_apply (x : IVec S16384x26 32) (r : Fin 16384) : itemCol x (ix1 r) = x (ix2 r 1) := by pointwise [itemCol]

theorem embRow_toNat (x : IVec S16384x26 32) (r : Fin 16384) (f : Fin 26) (h : (x (ix2 r f)).toNat < 1000) :
    (embRow x (ix2 r f)).toNat = (x (ix2 r f)).toNat + fieldOff f := by
  have e : embRow x (ix2 r f) = x (ix2 r f) + lit0 f := by
    pointwise [embRow]
    show x (ix2 r f) + lit0 (S26.rowMajor (ix1 f)) = _
    rw [show S26.rowMajor (ix1 f) = f from Fin.ext (Shape.rowMajor_val_one _)]
  have := fieldOff_lt f
  rw [e, BitVec.toNat_add, lit0_toNat]; omega

/-! ## The result -/

/-- The reference's result as a function of its arguments. -/
def refOut (x : IVec S16384x26 32) (e : FVec F S224000x16 .f32) (ub ib : FVec F S100000x1 .f32) (gb : FVec F S1 .f32) (w1 : FVec F S416x64 .f32)
    (b1 : FVec F S64 .f32) (w2 : FVec F S64x32 .f32) (b2 : FVec F S32 .f32) (w3 : FVec F S32x1 .f32) (b3 : FVec F S1 .f32) : FVec F S16384 .f32 :=
  addf (addf (addf (addf (broadcastInDim S16384 ![0] bcast_S1_S16384_0 gb) (shapeCast S16384 (takeBias ub (userCol x)) shapeCasts_S16384x1_S16384))
      (shapeCast S16384 (takeBias ib (itemCol x)) shapeCasts_S16384x1_S16384))
    (mulf (broadcastInDim S16384 ![] bcast_S_S16384 (constant S_ .f32 0x3F000000#32))
      (Host.reduceAdd (subf (mulf (Host.reduceAdd (takeEmb e (embRow x)) (constant S_ .f32 0x00000000#32) reducesTo_S16384x26x16_S16384x16_d1 h_S_)
          (Host.reduceAdd (takeEmb e (embRow x)) (constant S_ .f32 0x00000000#32) reducesTo_S16384x26x16_S16384x16_d1 h_S_))
        (Host.reduceAdd (mulf (takeEmb e (embRow x)) (takeEmb e (embRow x))) (constant S_ .f32 0x00000000#32) reducesTo_S16384x26x16_S16384x16_d1 h_S_))
        (constant S_ .f32 0x00000000#32) reducesTo_S16384x16_S16384_d1 h_S_)))
    (shapeCast S16384 (addf (Host.dotGeneral dot_S16384x32_S32x1_S16384x1_1_0_0_1_n_n none
        (maximumf (addf (Host.dotGeneral dot_S16384x64_S64x32_S16384x32_1_0_0_1_n_n none
          (maximumf (addf (Host.dotGeneral dot_S16384x416_S416x64_S16384x64_1_0_0_1_n_n none (shapeCast S16384x416 (takeEmb e (embRow x)) shapeCasts_S16384x26x16_S16384x416) w1)
            (broadcastInDim S16384x64 ![0, 1] bcast_S1x64_S16384x64_0_1 (broadcastInDim S1x64 ![1] bcast_S64_S1x64_1 b1)))
            (broadcastInDim S16384x64 ![] bcast_S_S16384x64 (constant S_ .f32 0x00000000#32))) w2)
          (broadcastInDim S16384x32 ![0, 1] bcast_S1x32_S16384x32_0_1 (broadcastInDim S1x32 ![1] bcast_S32_S1x32_1 b2)))
          (broadcastInDim S16384x32 ![] bcast_S_S16384x32 (constant S_ .f32 0x00000000#32))) w3)
      (broadcastInDim S16384x1 ![0, 1] bcast_S1x1_S16384x1_0_1 (broadcastInDim S1x1 ![1] bcast_S1_S1x1_1 b3))) shapeCasts_S16384x1_S16384)

set_option maxRecDepth 16384 in
/-- The run's result is it. -/
theorem res_eq (m : (ℓ : Loc nD τ sig) → Buf (Elt F) ℓ) (c : Dev nD) : Cert.ReferenceIdeal.Value.res_main_v40 m c
    = refOut (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10)) := by
  unfold Cert.ReferenceIdeal.Value.res_main_v40 refOut takeBias takeEmb wrapBias wrapEmb userCol itemCol embRow
  rfl

/-- The row of the embedding table that example `r`'s field `f` names. -/
abbrev embIx (x : IVec S16384x26 32) (hx : ∀ i, (x i).toNat < 1000) (r : Fin 16384) (f : Fin 26) : Fin 224000 :=
  ⟨(x (ix2 r f)).toNat + fieldOff f, by have := hx (ix2 r f); have := fieldOff_lt f; omega⟩
/-- The row of a bias table that field `f` of example `r` names. -/
abbrev biasIx (x : IVec S16384x26 32) (hx : ∀ i, (x i).toNat < 1000) (r : Fin 16384) (f : Fin 26) : Fin 100000 :=
  ⟨(x (ix2 r f)).toNat, by have := hx (ix2 r f); omega⟩

/-- Its entry `r` is the score of example `r`. -/
theorem refOut_apply (x : IVec S16384x26 32) (e : FVec Ideal S224000x16 .f32) (ub ib : FVec Ideal S100000x1 .f32) (gb : FVec Ideal S1 .f32) (w1 : FVec Ideal S416x64 .f32)
    (b1 : FVec Ideal S64 .f32) (w2 : FVec Ideal S64x32 .f32) (b2 : FVec Ideal S32 .f32) (w3 : FVec Ideal S32x1 .f32) (b3 : FVec Ideal S1 .f32)
    (hx : ∀ i, (x i).toNat < 1000) (r : Fin 16384) : refOut x e ub ib gb w1 b1 w2 b2 w3 b3 (ix1 r)
      = refScore (Ideal.ofBits .f32 0x3F000000#32) (ub (ix2 (biasIx x hx r 0) 0)) (ib (ix2 (biasIx x hx r 1) 0)) (gb (ix1 0)) (b3 (ix1 0))
          (fun f d => e (ix2 (embIx x hx r f) d)) (fun q j => w1 (ix2 q j)) (fun j => b1 (ix1 j)) (fun j k => w2 (ix2 j k)) (fun k => b2 (ix1 k))
          (fun k => w3 (ix2 k 0)) := by
  have hE : ∀ (f : Fin 26) (d : Fin 16), takeEmb e (embRow x) (ix3 r f d) = e (ix2 (embIx x hx r f) d) := fun f d => by
    have h := embRow_toNat x r f (hx _)
    rw [takeEmb_apply e (embRow x) r f d (by rw [h]; exact (embIx x hx r f).isLt)]
    exact congrArg (fun a => e (ix2 a d)) (Fin.ext h)
  have hU : takeBias ub (userCol x) (ix2 r 0) = ub (ix2 (biasIx x hx r 0) 0) := by
    have h := congrArg BitVec.toNat (userCol_apply x r)
    rw [takeBias_apply ub (userCol x) r (by rw [h]; exact (biasIx x hx r 0).isLt)]
    exact congrArg (fun a => ub (ix2 a 0)) (Fin.ext h)
  have hI : takeBias ib (itemCol x) (ix2 r 0) = ib (ix2 (biasIx x hx r 1) 0) := by
    have h := congrArg BitVec.toNat (itemCol_apply x r)
    rw [takeBias_apply ib (itemCol x) r (by rw [h]; exact (biasIx x hx r 1).isLt)]
    exact congrArg (fun a => ib (ix2 a 0)) (Fin.ext h)
  pointwise [refOut]
  simp only [hE, hU, hI]
  rfl

end Cert.Proof.OnReference

end
-- ==== Proof.Algebraic.lean ====
/-
  The kernel's result equals the reference's over the extended reals, at every index of the one result array.
-/
module

public import proofs.«01_k».proof.Proof.Frames
public import proofs.«01_k».proof.Proof.Value
public import proofs.«01_k».proof.Proof.RefValue

@[expose] public section

noncomputable section

namespace Cert.Proof

open Idealize.ShloMosaic Idealize.ShloMosaic.TcCoe Idealize.SL.Sem

/-- The reference's frame, from the memories the precondition admits. -/
theorem frame_reference_in_range : Cert.quiescent_ReferenceIdeal_pre_in_range (hReferenceIdeal := Cert.ReferenceIdeal.Gen.facts)
    (hPre_in_range := Cert.Pre_in_range.Gen.facts) := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- The two results are one function of the arguments, for indices below a thousand. -/
theorem results_eq (m : (ℓ : Loc Cert.KernelIdeal.nD Cert.KernelIdeal.τ Cert.KernelIdeal.sig) → Buf (Elt Ideal) ℓ) (c : Dev Cert.KernelIdeal.nD)
    (hx : ∀ i, (OnKernelIdeal.argX m c i).toNat < 1000) :
    OnReference.refOut (F := Ideal) (OnKernelIdeal.argX m c) (OnKernelIdeal.argE m c) (OnKernelIdeal.argU m c) (OnKernelIdeal.argI m c) (OnKernelIdeal.argG m c)
      (OnKernelIdeal.argW1 m c) (OnKernelIdeal.argB1 m c) (OnKernelIdeal.argW2 m c) (OnKernelIdeal.argB2 m c) (OnKernelIdeal.argW3 m c) (OnKernelIdeal.argB3 m c)
      = OnKernelIdeal.mlpOut (OnKernelIdeal.V3 m) c := by
  funext i
  have hi : i = ix1 (i 0) := by funext a; match a with | ⟨0, _⟩ => rfl
  rw [hi]
  exact (OnReference.refOut_apply _ _ _ _ _ _ _ _ _ _ _ hx (i 0)).trans
    ((score_eq _ _ _ _ _ _ _ _ _ _ _).symm.trans (OnKernelIdeal.mlpOut_apply m c hx (i 0)).symm)

/-- From memories with the same arguments, both programs run and end with the same result. -/
theorem algebraic : Cert.algebraic_KernelIdeal_ReferenceIdeal (hKernelIdeal := Cert.KernelIdeal.Gen.facts) (hReferenceIdeal := Cert.ReferenceIdeal.Gen.facts)
    (hPre_in_range := Cert.Pre_in_range.Gen.facts) := by
  intro m g m' g' hpre hm
  have hx : ∀ d i, (OnKernelIdeal.argX m d i).toNat < 1000 := fun d i => lt_of_in_range (hpre d) i
  refine ⟨fun c => OnKernelIdeal.mlpOut (OnKernelIdeal.V3 m) c, ?_, ?_⟩
  · exact (θ_run Cert.KernelIdeal.defs _ _).mono (fun _ h => h.1) (OnKernelIdeal.run_ends (F := Ideal) m g hx)
  · refine (θ_run Cert.ReferenceIdeal.defs _ _).mono (fun r h c => ⟨(h c).1.trans ?_, (h c).2⟩) (Cert.ReferenceIdeal.Value.run (F := Ideal) m' g')
    obtain ⟨h0, h1, h2, h3, h4, h5, h6, h7, h8, h9, h10⟩ := hm c
    rw [OnReference.res_eq, h0, h1, h2, h3, h4, h5, h6, h7, h8, h9, h10]
    exact results_eq m c (hx c)

end Cert.Proof

end
-- ==== Proof.lean ====
/-
  The certificate: the frames of the kernel at 32-bit words and over the extended reals, the reference's frames,
  `preserves` (no operation is rewritten), and the equality of the kernel's and the reference's results.
-/
module

public import proofs.«01_k».proof.Defs
public import proofs.«01_k».proof.Proof.Algebraic

@[expose] public section

noncomputable section

namespace Cert.Proof

/-- Everything claimed. -/
theorem claim : Cert.Claim := ⟨Cert.Kernel.Gen.facts, Cert.KernelIdeal.Gen.facts, Cert.ReferenceIdeal.Gen.facts, Cert.Pre_in_range.Gen.facts,
  frame_kernel, frame_kernel_ideal, frame_reference, frame_reference_in_range, trivial, algebraic⟩

end Cert.Proof

end
